-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bands [hPre_bands : Cert.Pre_bands.Facts] (m : (ℓ : Loc Cert.KernelIdeal.nD Cert.KernelIdeal.τ Cert.KernelIdeal.sig) → Buf (Elt Ideal) ℓ) : Prop :=
  ∀ c : Dev Cert.KernelIdeal.nD,
    (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_bands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bands [hPre_bands : Cert.Pre_bands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_bands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_bands [hKernelIdeal : Cert.KernelIdeal.Facts] [hPre_bands : Cert.Pre_bands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_bands [hReferenceIdeal : Cert.ReferenceIdeal.Facts] [hPre_bands : Cert.Pre_bands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_bands [hKernelIdeal : Cert.KernelIdeal.Facts] [hReferenceIdeal : Cert.ReferenceIdeal.Facts] [hPre_bands : Cert.Pre_bands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_bands : Cert.Pre_bands.Facts),
    quiescent_Kernel (hKernel := hKernel)
    ∧ quiescent_KernelIdeal (hKernelIdeal := hKernelIdeal)
    ∧ quiescent_KernelIdeal_pre_bands (hKernelIdeal := hKernelIdeal) (hPre_bands := hPre_bands)
    ∧ quiescent_ReferenceIdeal (hReferenceIdeal := hReferenceIdeal)
    ∧ quiescent_ReferenceIdeal_pre_bands (hReferenceIdeal := hReferenceIdeal) (hPre_bands := hPre_bands)
    ∧ preserves_Kernel_KernelIdeal
    ∧ algebraic_KernelIdeal_ReferenceIdeal_pre_bands (hKernelIdeal := hKernelIdeal) (hReferenceIdeal := hReferenceIdeal) (hPre_bands := hPre_bands)
-- ==== Pre_bands.lean ====
abbrev S8x1025x1024x2 : Shape := ⟨4, ![8, 1025, 1024, 2]⟩
abbrev S64x60x16 : Shape := ⟨3, ![64, 60, 16]⟩
abbrev S64x16 : Shape := ⟨2, ![64, 16]⟩
abbrev S64x16x60 : Shape := ⟨3, ![64, 16, 60]⟩
abbrev S64x60 : Shape := ⟨2, ![64, 60]⟩
abbrev S1920 : Shape := ⟨1, ![1920]⟩
abbrev S1025 : Shape := ⟨1, ![1025]⟩
abbrev S64 : Shape := ⟨1, ![64]⟩
abbrev S64x1 : Shape := ⟨2, ![64, 1]⟩
abbrev S64x30 : Shape := ⟨2, ![64, 30]⟩
abbrev S_ : Shape := ⟨0, ![]⟩

class Facts : Prop where
  bcast_S64_S64x1_0 : S64.BroadcastsInDim S64x1 (![0] : Fin 1 → Fin S64x1.rank)
  bcast_S64x1_S64x30_0_1 : S64x1.BroadcastsInDim S64x30 (![0, 1] : Fin 2 → Fin S64x30.rank)
  shapeCasts_S64x30_S1920 : S64x30.ShapeCasts S1920
  bcast_S_S8x1025x1024x2 : S_.BroadcastsInDim S8x1025x1024x2 (![] : Fin 0 → Fin S8x1025x1024x2.rank)
  bcast_S_S64x60x16 : S_.BroadcastsInDim S64x60x16 (![] : Fin 0 → Fin S64x60x16.rank)
  bcast_S_S64x16 : S_.BroadcastsInDim S64x16 (![] : Fin 0 → Fin S64x16.rank)
  bcast_S_S64x16x60 : S_.BroadcastsInDim S64x16x60 (![] : Fin 0 → Fin S64x16x60.rank)
  bcast_S_S64x60 : S_.BroadcastsInDim S64x60 (![] : Fin 0 → Fin S64x60.rank)
  bcast_S_S1920 : S_.BroadcastsInDim S1920 (![] : Fin 0 → Fin S1920.rank)
  bcast_S_S1025 : S_.BroadcastsInDim S1025 (![] : Fin 0 → Fin S1025.rank)

variable [Facts]

noncomputable abbrev lit0 : Fin 64 → BitVec 32 := fun
  | 0 => 1#32 | 1 => 16#32 | 2 => 32#32 | 3 => 48#32 | 4 => 64#32 | 5 => 79#32 | 6 => 95#32 | 7 => 111#32
  | 8 => 127#32 | 9 => 142#32 | 10 => 158#32 | 11 => 174#32 | 12 => 190#32 | 13 => 206#32 | 14 => 221#32 | 15 => 237#32
  | 16 => 253#32 | 17 => 269#32 | 18 => 284#32 | 19 => 300#32 | 20 => 316#32 | 21 => 332#32 | 22 => 347#32 | 23 => 363#32
  | 24 => 379#32 | 25 => 395#32 | 26 => 411#32 | 27 => 426#32 | 28 => 442#32 | 29 => 458#32 | 30 => 474#32 | 31 => 489#32
  | 32 => 505#32 | 33 => 521#32 | 34 => 537#32 | 35 => 552#32 | 36 => 568#32 | 37 => 584#32 | 38 => 600#32 | 39 => 616#32
  | 40 => 631#32 | 41 => 647#32 | 42 => 663#32 | 43 => 679#32 | 44 => 694#32 | 45 => 710#32 | 46 => 726#32 | 47 => 742#32
  | 48 => 757#32 | 49 => 773#32 | 50 => 789#32 | 51 => 805#32 | 52 => 821#32 | 53 => 836#32 | 54 => 852#32 | 55 => 868#32
  | 56 => 884#32 | 57 => 899#32 | 58 => 915#32 | 59 => 931#32 | 60 => 947#32 | 61 => 962#32 | 62 => 978#32 | 63 => 994#32
  | _ => 0#32

def fn_part1 {F : FTy → Type} [FloatOps F] (main_arg5 : FVec F S1920 .f32) (main_arg6 : FVec F S1025 .f32) (main_arg7 : IVec S1920 32) (main_v4 : IVec S1920 32) (main_v7 : IVec S8x1025x1024x2 1) (main_v10 : IVec S64x60x16 1) (main_v13 : IVec S64x16 1) (main_v16 : IVec S64x16x60 1) (main_v17 : FVec F S64x60 .f32) (main_cst_3 : FVec F S_ .f32) : IVec S8x1025x1024x2 1 × IVec S64x60x16 1 × IVec S64x16 1 × IVec S64x16x60 1 × IVec S64x60 1 × IVec S1920 1 × IVec S1025 1 × IVec S1920 1 :=
  let main_v18 : FVec F S64x60 .f32 := broadcastInDim S64x60 ![] bcast_S_S64x60 main_cst_3
  let main_v19 : IVec S64x60 1 := cmpf .olt main_v17 main_v18
  let main_v20 : FVec F S1920 .f32 := Host.absf main_arg5
  let main_cst_4 : FVec F S_ .f32 := constant S_ .f32 0x7F800000#32
  let main_v21 : FVec F S1920 .f32 := broadcastInDim S1920 ![] bcast_S_S1920 main_cst_4
  let main_v22 : IVec S1920 1 := cmpf .olt main_v20 main_v21
  let main_cst_5 : FVec F S_ .f32 := constant S_ .f32 0x00000000#32
  let main_v23 : FVec F S1025 .f32 := broadcastInDim S1025 ![] bcast_S_S1025 main_cst_5
  let main_v24 : IVec S1025 1 := cmpf .une main_arg6 main_v23
  let main_cst_6 : FVec F S_ .f32 := constant S_ .f32 0x00000000#32
  let main_v25 : FVec F S1920 .f32 := broadcastInDim S1920 ![] bcast_S_S1920 main_cst_6
  let main_v26 : IVec S1920 1 := cmpf .oeq main_arg5 main_v25
  let main_v27 : IVec S1920 1 := cmpi .eq main_arg7 main_v4
  let main_v28 : IVec S1920 1 := ori main_v26 main_v27
  (main_v7, main_v10, main_v13, main_v16, main_v19, main_v22, main_v24, main_v28)

def fn {F : FTy → Type} [FloatOps F] (main_arg0 : FVec F S8x1025x1024x2 .f32) (main_arg1 : FVec F S64x60x16 .f32) (main_arg2 : FVec F S64x16 .f32) (main_arg3 : FVec F S64x16x60 .f32) (main_arg4 : FVec F S64x60 .f32) (main_arg5 : FVec F S1920 .f32) (main_arg6 : FVec F S1025 .f32) (main_arg7 : IVec S1920 32) : IVec S8x1025x1024x2 1 × IVec S64x60x16 1 × IVec S64x16 1 × IVec S64x16x60 1 × IVec S64x60 1 × IVec S1920 1 × IVec S1025 1 × IVec S1920 1 :=
  let main_c : IVec S64 32 := fun i => lit0 (S64.rowMajor i)
  let main_v0 : IVec S64x1 32 := broadcastInDim S64x1 ![0] bcast_S64_S64x1_0 main_c
  let main_v1 : IVec S64x30 32 := iotaInDim S64x30 32 1
  let main_v2 : IVec S64x30 32 := broadcastInDim S64x30 ![0, 1] bcast_S64x1_S64x30_0_1 main_v0
  let main_v3 : IVec S64x30 32 := addi main_v2 main_v1
  let main_v4 : IVec S1920 32 := shapeCast S1920 main_v3 shapeCasts_S64x30_S1920
  let main_v5 : FVec F S8x1025x1024x2 .f32 := Host.absf main_arg0
  let main_cst : FVec F S_ .f32 := constant S_ .f32 0x7F800000#32
  let main_v6 : FVec F S8x1025x1024x2 .f32 := broadcastInDim S8x1025x1024x2 ![] bcast_S_S8x1025x1024x2 main_cst
  let main_v7 : IVec S8x1025x1024x2 1 := cmpf .olt main_v5 main_v6
  let main_v8 : FVec F S64x60x16 .f32 := Host.absf main_arg1
  let main_cst_0 : FVec F S_ .f32 := constant S_ .f32 0x7F800000#32
  let main_v9 : FVec F S64x60x16 .f32 := broadcastInDim S64x60x16 ![] bcast_S_S64x60x16 main_cst_0
  let main_v10 : IVec S64x60x16 1 := cmpf .olt main_v8 main_v9
  let main_v11 : FVec F S64x16 .f32 := Host.absf main_arg2
  let main_cst_1 : FVec F S_ .f32 := constant S_ .f32 0x7F800000#32
  let main_v12 : FVec F S64x16 .f32 := broadcastInDim S64x16 ![] bcast_S_S64x16 main_cst_1
  let main_v13 : IVec S64x16 1 := cmpf .olt main_v11 main_v12
  let main_v14 : FVec F S64x16x60 .f32 := Host.absf main_arg3
  let main_cst_2 : FVec F S_ .f32 := constant S_ .f32 0x7F800000#32
  let main_v15 : FVec F S64x16x60 .f32 := broadcastInDim S64x16x60 ![] bcast_S_S64x16x60 main_cst_2
  let main_v16 : IVec S64x16x60 1 := cmpf .olt main_v14 main_v15
  let main_v17 : FVec F S64x60 .f32 := Host.absf main_arg4
  let main_cst_3 : FVec F S_ .f32 := constant S_ .f32 0x7F800000#32
  fn_part1 (F := F) main_arg5 main_arg6 main_arg7 main_v4 main_v7 main_v10 main_v13 main_v16 main_v17 main_cst_3
-- ==== Kernel.lean ====
abbrev S8x1025x1024x2 : Shape := ⟨4, ![8, 1025, 1024, 2]⟩
abbrev S64x60x16 : Shape := ⟨3, ![64, 60, 16]⟩
abbrev S64x16 : Shape := ⟨2, ![64, 16]⟩
abbrev S64x16x60 : Shape := ⟨3, ![64, 16, 60]⟩
abbrev S64x60 : Shape := ⟨2, ![64, 60]⟩
abbrev S1920 : Shape := ⟨1, ![1920]⟩
abbrev S1025 : Shape := ⟨1, ![1025]⟩
abbrev S64 : Shape := ⟨1, ![64]⟩
abbrev S64x30 : Shape := ⟨2, ![64, 30]⟩
abbrev S64x30x2 : Shape := ⟨3, ![64, 30, 2]⟩
abbrev S_ : Shape := ⟨0, ![]⟩
abbrev S1920x1 : Shape := ⟨2, ![1920, 1]⟩
abbrev S1 : Shape := ⟨1, ![1]⟩
abbrev S1x1 : Shape := ⟨2, ![1, 1]⟩
abbrev S64x128x60 : Shape := ⟨3, ![64, 128, 60]⟩
abbrev S64x1x1 : Shape := ⟨3, ![64, 1, 1]⟩
abbrev S64x1x60 : Shape := ⟨3, ![64, 1, 60]⟩
abbrev S8x1025x2x1024 : Shape := ⟨4, ![8, 1025, 2, 1024]⟩
abbrev S1x1025x2x1024 : Shape := ⟨4, ![1, 1025, 2, 1024]⟩
abbrev S32x128x128 : Shape := ⟨3, ![32, 128, 128]⟩
abbrev S128x32 : Shape := ⟨2, ![128, 32]⟩
abbrev S1x60x16 : Shape := ⟨3, ![1, 60, 16]⟩
abbrev S60x16 : Shape := ⟨2, ![60, 16]⟩
abbrev S1x16x60 : Shape := ⟨3, ![1, 16, 60]⟩
abbrev S16x60 : Shape := ⟨2, ![16, 60]⟩
abbrev S1x128x60 : Shape := ⟨3, ![1, 128, 60]⟩
abbrev S128x60 : Shape := ⟨2, ![128, 60]⟩
abbrev S1x16 : Shape := ⟨2, ![1, 16]⟩
abbrev S1x60 : Shape := ⟨2, ![1, 60]⟩
abbrev S128x16 : Shape := ⟨2, ![128, 16]⟩
abbrev S128x128 : Shape := ⟨2, ![128, 128]⟩
abbrev S60x1 : Shape := ⟨2, ![60, 1]⟩
abbrev S128x1 : Shape := ⟨2, ![128, 1]⟩
abbrev S1x128x128 : Shape := ⟨3, ![1, 128, 128]⟩
abbrev S1x64x2x1024 : Shape := ⟨4, ![1, 64, 2, 1024]⟩
abbrev S128x1024 : Shape := ⟨2, ![128, 1024]⟩

abbrev nBuf : Space → Nat
  | .hbm => 62
  | .vmem => 12
  | .smem => 0
  | _ => 0

abbrev bufTy : (tb : Table) → Fin (tcTables nBuf tb) → BufTy
  | .hbm, ⟨0, _⟩ => ⟨S8x1025x1024x2, .f32⟩
  | .hbm, ⟨1, _⟩ => ⟨S64x60x16, .f32⟩
  | .hbm, ⟨2, _⟩ => ⟨S64x16, .f32⟩
  | .hbm, ⟨3, _⟩ => ⟨S64x16x60, .f32⟩
  | .hbm, ⟨4, _⟩ => ⟨S64x60, .f32⟩
  | .hbm, ⟨5, _⟩ => ⟨S1920, .f32⟩
  | .hbm, ⟨6, _⟩ => ⟨S1025, .f32⟩
  | .hbm, ⟨7, _⟩ => ⟨S1920, .i32⟩
  | .hbm, ⟨8, _⟩ => ⟨S64, .i32⟩
  | .hbm, ⟨9, _⟩ => ⟨S64x30, .f32⟩
  | .hbm, ⟨10, _⟩ => ⟨S64x30x2, .f32⟩
  | .hbm, ⟨11, _⟩ => ⟨S64x60, .f32⟩
  | .hbm, ⟨12, _⟩ => ⟨S_, .f32⟩
  | .hbm, ⟨13, _⟩ => ⟨S1025, .f32⟩
  | .hbm, ⟨14, _⟩ => ⟨S1025, .f32⟩
  | .hbm, ⟨15, _⟩ => ⟨S_, .i32⟩
  | .hbm, ⟨16, _⟩ => ⟨S1920, .i32⟩
  | .hbm, ⟨17, _⟩ => ⟨S1920, .i1⟩
  | .hbm, ⟨18, _⟩ => ⟨S_, .i32⟩
  | .hbm, ⟨19, _⟩ => ⟨S1920, .i32⟩
  | .hbm, ⟨20, _⟩ => ⟨S1920, .i32⟩
  | .hbm, ⟨21, _⟩ => ⟨S1920, .i32⟩
  | .hbm, ⟨22, _⟩ => ⟨S1920x1, .i32⟩
  | .hbm, ⟨23, _⟩ => ⟨S1, .i32⟩
  | .hbm, ⟨24, _⟩ => ⟨S_, .i32⟩
  | .hbm, ⟨25, _⟩ => ⟨S1920x1, .i32⟩
  | .hbm, ⟨26, _⟩ => ⟨S1920x1, .i1⟩
  | .hbm, ⟨27, _⟩ => ⟨S1x1, .i32⟩
  | .hbm, ⟨28, _⟩ => ⟨S1920x1, .i32⟩
  | .hbm, ⟨29, _⟩ => ⟨S1920x1, .i1⟩
  | .hbm, ⟨30, _⟩ => ⟨S1920x1, .i1⟩
  | .hbm, ⟨31, _⟩ => ⟨S_, .i1⟩
  | .hbm, ⟨32, _⟩ => ⟨S1920, .i1⟩
  | .hbm, ⟨33, _⟩ => ⟨S1920, .f32⟩
  | .hbm, ⟨34, _⟩ => ⟨S_, .f32⟩
  | .hbm, ⟨35, _⟩ => ⟨S1920, .f32⟩
  | .hbm, ⟨36, _⟩ => ⟨S1920, .f32⟩
  | .hbm, ⟨37, _⟩ => ⟨S64x30, .f32⟩
  | .hbm, ⟨38, _⟩ => ⟨S64x30x2, .f32⟩
  | .hbm, ⟨39, _⟩ => ⟨S64x60, .f32⟩
  | .hbm, ⟨40, _⟩ => ⟨S64x60, .f32⟩
  | .hbm, ⟨41, _⟩ => ⟨S64x128x60, .i32⟩
  | .hbm, ⟨42, _⟩ => ⟨S64x128x60, .i32⟩
  | .hbm, ⟨43, _⟩ => ⟨S64x1x1, .i32⟩
  | .hbm, ⟨44, _⟩ => ⟨S64x128x60, .i32⟩
  | .hbm, ⟨45, _⟩ => ⟨S64x128x60, .i32⟩
  | .hbm, ⟨46, _⟩ => ⟨S64x128x60, .i1⟩
  | .hbm, ⟨47, _⟩ => ⟨S64x1x60, .f32⟩
  | .hbm, ⟨48, _⟩ => ⟨S_, .f32⟩
  | .hbm, ⟨49, _⟩ => ⟨S_, .f32⟩
  | .hbm, ⟨50, _⟩ => ⟨S64x128x60, .f32⟩
  | .hbm, ⟨51, _⟩ => ⟨S64x128x60, .f32⟩
  | .hbm, ⟨52, _⟩ => ⟨S64x128x60, .f32⟩
  | .hbm, ⟨53, _⟩ => ⟨S64x1x60, .f32⟩
  | .hbm, ⟨54, _⟩ => ⟨S_, .f32⟩
  | .hbm, ⟨55, _⟩ => ⟨S_, .f32⟩
  | .hbm, ⟨56, _⟩ => ⟨S64x128x60, .f32⟩
  | .hbm, ⟨57, _⟩ => ⟨S64x128x60, .f32⟩
  | .hbm, ⟨58, _⟩ => ⟨S64x128x60, .f32⟩
  | .hbm, ⟨59, _⟩ => ⟨S8x1025x2x1024, .f32⟩
  | .hbm, ⟨60, _⟩ => ⟨S8x1025x2x1024, .f32⟩
  | .hbm, ⟨61, _⟩ => ⟨S8x1025x1024x2, .f32⟩
  | .local _ .vmem, ⟨0, _⟩ => ⟨S1x1025x2x1024, .f32⟩
  | .local _ .vmem, ⟨1, _⟩ => ⟨S1x1025x2x1024, .f32⟩
  | .local _ .vmem, ⟨2, _⟩ => ⟨S64x60x16, .f32⟩
  | .local _ .vmem, ⟨3, _⟩ => ⟨S64x16x60, .f32⟩
  | .local _ .vmem, ⟨4, _⟩ => ⟨S64x16, .f32⟩
  | .local _ .vmem, ⟨5, _⟩ => ⟨S64x60, .f32⟩
  | .local _ .vmem, ⟨6, _⟩ => ⟨S64x128x60, .f32⟩
  | .local _ .vmem, ⟨7, _⟩ => ⟨S64x128x60, .f32⟩
  | .local _ .vmem, ⟨8, _⟩ => ⟨S1x1025x2x1024, .f32⟩
  | .local _ .vmem, ⟨9, _⟩ => ⟨S1x1025x2x1024, .f32⟩
  | .local _ .vmem, ⟨10, _⟩ => ⟨S32x128x128, .f32⟩
  | .local _ .vmem, ⟨11, _⟩ => ⟨S128x32, .f32⟩
  | _, _ => ⟨S8x1025x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v17 : Ref sig .tc := ⟨.hbm, 52, rfl⟩
abbrev main_v18 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1025x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x60x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x16x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128x60 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1025x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x1025x1024x2 : Shape := ⟨4, ![8, 1025, 1024, 2]⟩
abbrev S64x60x16 : Shape := ⟨3, ![64, 60, 16]⟩
abbrev S64x16 : Shape := ⟨2, ![64, 16]⟩
abbrev S64x16x60 : Shape := ⟨3, ![64, 16, 60]⟩
abbrev S64x60 : Shape := ⟨2, ![64, 60]⟩
abbrev S1920 : Shape := ⟨1, ![1920]⟩
abbrev S1025 : Shape := ⟨1, ![1025]⟩
abbrev S8x1024x2x1025 : Shape := ⟨4, ![8, 1024, 2, 1025]⟩
abbrev S_ : Shape := ⟨0, ![]⟩
abbrev S1920x1 : Shape := ⟨2, ![1920, 1]⟩
abbrev S1 : Shape := ⟨1, ![1]⟩
abbrev S1x1 : Shape := ⟨2, ![1, 1]⟩
abbrev S8x1024x2x1920 : Shape := ⟨4, ![8, 1024, 2, 1920]⟩
abbrev S1x1x1x1920 : Shape := ⟨4, ![1, 1, 1, 1920]⟩
abbrev S8x1024x2x64x30 : Shape := ⟨5, ![8, 1024, 2, 64, 30]⟩
abbrev S8x1024x64x30x2 : Shape := ⟨5, ![8, 1024, 64, 30, 2]⟩
abbrev S8x1024x64x60 : Shape := ⟨4, ![8, 1024, 64, 60]⟩
abbrev S64x16x8x1024 : Shape := ⟨4, ![64, 16, 8, 1024]⟩
abbrev S8x1024x64x16 : Shape := ⟨4, ![8, 1024, 64, 16]⟩
abbrev S1x1x64x16 : Shape := ⟨4, ![1, 1, 64, 16]⟩
abbrev S64x60x8x1024 : Shape := ⟨4, ![64, 60, 8, 1024]⟩
abbrev S1x1x64x60 : Shape := ⟨4, ![1, 1, 64, 60]⟩
abbrev S1x1x1x1025 : Shape := ⟨4, ![1, 1, 1, 1025]⟩

abbrev nBuf : Space → Nat
  | .hbm => 69
  | .vmem => 0
  | .smem => 0
  | _ => 0

abbrev bufTy : (tb : Table) → Fin (tcTables nBuf tb) → BufTy
  | .hbm, ⟨0, _⟩ => ⟨S8x1025x1024x2, .f32⟩
  | .hbm, ⟨1, _⟩ => ⟨S64x60x16, .f32⟩
  | .hbm, ⟨2, _⟩ => ⟨S64x16, .f32⟩
  | .hbm, ⟨3, _⟩ => ⟨S64x16x60, .f32⟩
  | .hbm, ⟨4, _⟩ => ⟨S64x60, .f32⟩
  | .hbm, ⟨5, _⟩ => ⟨S1920, .f32⟩
  | .hbm, ⟨6, _⟩ => ⟨S1025, .f32⟩
  | .hbm, ⟨7, _⟩ => ⟨S1920, .i32⟩
  | .hbm, ⟨8, _⟩ => ⟨S8x1024x2x1025, .f32⟩
  | .hbm, ⟨9, _⟩ => ⟨S_, .i32⟩
  | .hbm, ⟨10, _⟩ => ⟨S1920, .i32⟩
  | .hbm, ⟨11, _⟩ => ⟨S1920, .i1⟩
  | .hbm, ⟨12, _⟩ => ⟨S_, .i32⟩
  | .hbm, ⟨13, _⟩ => ⟨S1920, .i32⟩
  | .hbm, ⟨14, _⟩ => ⟨S1920, .i32⟩
  | .hbm, ⟨15, _⟩ => ⟨S1920, .i32⟩
  | .hbm, ⟨16, _⟩ => ⟨S1920x1, .i32⟩
  | .hbm, ⟨17, _⟩ => ⟨S1, .i32⟩
  | .hbm, ⟨18, _⟩ => ⟨S_, .i32⟩
  | .hbm, ⟨19, _⟩ => ⟨S1920x1, .i32⟩
  | .hbm, ⟨20, _⟩ => ⟨S1920x1, .i1⟩
  | .hbm, ⟨21, _⟩ => ⟨S1x1, .i32⟩
  | .hbm, ⟨22, _⟩ => ⟨S1920x1, .i32⟩
  | .hbm, ⟨23, _⟩ => ⟨S1920x1, .i1⟩
  | .hbm, ⟨24, _⟩ => ⟨S1920x1, .i1⟩
  | .hbm, ⟨25, _⟩ => ⟨S_, .i1⟩
  | .hbm, ⟨26, _⟩ => ⟨S1920, .i1⟩
  | .hbm, ⟨27, _⟩ => ⟨S8x1024x2x1920, .f32⟩
  | .hbm, ⟨28, _⟩ => ⟨S8x1024x2x1920, .i1⟩
  | .hbm, ⟨29, _⟩ => ⟨S_, .f32⟩
  | .hbm, ⟨30, _⟩ => ⟨S8x1024x2x1920, .f32⟩
  | .hbm, ⟨31, _⟩ => ⟨S8x1024x2x1920, .f32⟩
  | .hbm, ⟨32, _⟩ => ⟨S1x1x1x1920, .f32⟩
  | .hbm, ⟨33, _⟩ => ⟨S8x1024x2x1920, .f32⟩
  | .hbm, ⟨34, _⟩ => ⟨S8x1024x2x1920, .f32⟩
  | .hbm, ⟨35, _⟩ => ⟨S8x1024x2x64x30, .f32⟩
  | .hbm, ⟨36, _⟩ => ⟨S8x1024x64x30x2, .f32⟩
  | .hbm, ⟨37, _⟩ => ⟨S8x1024x64x60, .f32⟩
  | .hbm, ⟨38, _⟩ => ⟨S64x16x8x1024, .f32⟩
  | .hbm, ⟨39, _⟩ => ⟨S8x1024x64x16, .f32⟩
  | .hbm, ⟨40, _⟩ => ⟨S1x1x64x16, .f32⟩
  | .hbm, ⟨41, _⟩ => ⟨S8x1024x64x16, .f32⟩
  | .hbm, ⟨42, _⟩ => ⟨S8x1024x64x16, .f32⟩
  | .hbm, ⟨43, _⟩ => ⟨S64x60x8x1024, .f32⟩
  | .hbm, ⟨44, _⟩ => ⟨S8x1024x64x60, .f32⟩
  | .hbm, ⟨45, _⟩ => ⟨S1x1x64x60, .f32⟩
  | .hbm, ⟨46, _⟩ => ⟨S8x1024x64x60, .f32⟩
  | .hbm, ⟨47, _⟩ => ⟨S8x1024x64x60, .f32⟩
  | .hbm, ⟨48, _⟩ => ⟨S8x1024x64x30x2, .f32⟩
  | .hbm, ⟨49, _⟩ => ⟨S8x1024x2x64x30, .f32⟩
  | .hbm, ⟨50, _⟩ => ⟨S8x1024x2x1920, .f32⟩
  | .hbm, ⟨51, _⟩ => ⟨S1x1x1x1920, .f32⟩
  | .hbm, ⟨52, _⟩ => ⟨S8x1024x2x1920, .f32⟩
  | .hbm, ⟨53, _⟩ => ⟨S8x1024x2x1920, .f32⟩
  | .hbm, ⟨54, _⟩ => ⟨S_, .f32⟩
  | .hbm, ⟨55, _⟩ => ⟨S8x1024x2x1025, .f32⟩
  | .hbm, ⟨56, _⟩ => ⟨S_, .i32⟩
  | .hbm, ⟨57, _⟩ => ⟨S1920, .i32⟩
  | .hbm, ⟨58, _⟩ => ⟨S1920, .i1⟩
  | .hbm, ⟨59, _⟩ => ⟨S_, .i32⟩
  | .hbm, ⟨60, _⟩ => ⟨S1920, .i32⟩
  | .hbm, ⟨61, _⟩ => ⟨S1920, .i32⟩
  | .hbm, ⟨62, _⟩ => ⟨S1920, .i32⟩
  | .hbm, ⟨63, _⟩ => ⟨S1920x1, .i32⟩
  | .hbm, ⟨64, _⟩ => ⟨S8x1024x2x1025, .f32⟩
  | .hbm, ⟨65, _⟩ => ⟨S1x1x1x1025, .f32⟩
  | .hbm, ⟨66, _⟩ => ⟨S8x1024x2x1025, .f32⟩
  | .hbm, ⟨67, _⟩ => ⟨S8x1024x2x1025, .f32⟩
  | .hbm, ⟨68, _⟩ => ⟨S8x1025x1024x2, .f32⟩
  | _, _ => ⟨S8x1025x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst : Ref sig .tc := ⟨.hbm, 54, rfl⟩
abbrev main_v24 : Ref sig .tc := ⟨.hbm, 55, rfl⟩
abbrev main_c : Ref sig .tc := ⟨.hbm, 56, rfl⟩
abbrev main_v25 : Ref sig .tc := ⟨.hbm, 57, rfl⟩
abbrev main_v26 : Ref sig .tc := ⟨.hbm, 58, rfl⟩
abbrev main_c_0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]
-- ==== Proof.Fold.lean ====
module

public import proofs.«01_k».proof.Proof.Gen.KernelIdeal.Frame
public import Idealize.ShloMosaic.Lib.Pipeline.Value
public import Idealize.ShloMosaic.Lib.WritesUnit
public import Idealize.ShloMosaic.Lib.WholeRead

/-! # What a list of stores leaves

Three readings of a list of stores by the values that are read afterwards, independent of the buffer and of what it held before:
stores that add to what a window already held (`Holds`, `Holds.add`), and stores that fill an array slab by slab (`Below`). -/

@[expose] public section

noncomputable section

namespace Cert.KernelIdeal.Fold

open Idealize.ShloMosaic Idealize.SL.Sem
open Idealize.ShloMosaic.View (Piece)

variable {Val : EltTy → Type}

/-- After the stores `L` every element reads as `g` gives it, whatever buffer they go to. -/
structure Holds {s : Shape} {e : EltTy} (L : List (Piece Val s e)) (g : s.Idx → Val e) : Prop where
  read : ∀ (sig : RefSig) (κ : Kind) (sp : Space) (v : View sig κ sp s e) (f : v.ty.Contents Val) (y : s.Idx), v.read Val (v.writes Val f L) y = g y

/-- A load after such stores reads `g` at the box. -/
theorem Holds.readCov [∀ e, Nonempty (Val e)] {s : Shape} {e : EltTy} {L : List (Piece Val s e)} {g : s.Idx → Val e} (h : Holds L g)
    {sig : RefSig} {κ : Kind} {sp : Space} (v : View sig κ sp s e) (B : LoadRect s) : v.readCov L B = fun j => g (B.idx j) :=
  funext fun j => h.read _ _ _ v v.junk (B.idx j)

/-- A whole memref whose contents were given as `X` reads `X` at a load's box. -/
theorem ld_unread {sig : RefSig} {κ : Kind} {sp : Space} {s : Shape} {e : EltTy} {m : Memref sig κ sp s e} (h : m.IsWhole) (X : s.Idx → Val e)
    (B : LoadRect s) : m.view.readAt Val B (h.unread X) = fun j => X (B.idx j) :=
  funext fun j => h.readAt_unread X B j

/-- One store over all of the buffer. -/
theorem Holds.whole {s : Shape} {e : EltTy} {off : Fin s.rank → ℕ} (inb : ∀ a, off a + s.size a ≤ s.size a)
    (w : s.Idx → Val e) (h0 : ∀ a, off a = 0) : Holds [(⟨Rect.unit off s.size inb, w⟩ : Piece Val s e)] w := by
  refine ⟨fun sig κ sp v f y => ?_⟩
  exact View.read_writes_cons_unit_of_mem v f inb w [] y y rfl fun a => by rw [h0 a, Nat.zero_add]

/-- One more store, of the window at `off`: inside it the stored values are read, elsewhere what was there before. -/
theorem Holds.cons {s : Shape} {e : EltTy} {L : List (Piece Val s e)} {g : s.Idx → Val e} (h : Holds L g) {off size : Fin s.rank → ℕ}
    (inb : ∀ a, off a + size a ≤ s.size a) (w : (Rect.unit off size inb).shape.Idx → Val e) (g' : s.Idx → Val e)
    (hin : ∀ y (hy : ∀ a, off a ≤ (y a).val ∧ (y a).val < off a + size a), w (Rect.unitLocal (s := s) (off := off) (size := size) y hy) = g' y)
    (hout : ∀ y, (¬ ∀ a, off a ≤ (y a).val ∧ (y a).val < off a + size a) → g y = g' y) :
    Holds ((⟨Rect.unit off size inb, w⟩ : Piece Val s e) :: L) g' := by
  refine ⟨fun sig κ sp v f y => ?_⟩
  rw [View.read_writes_cons_unit v f inb w L y rfl]
  split
  · next hy => exact hin y hy
  · next hy => rw [h.read _ _ _ v f y]; exact hout y hy

/-- The elements satisfying `P` read as `g` gives them after the stores `L`. -/
structure Below {s : Shape} {e : EltTy} (P : s.Idx → Prop) (L : List (Piece Val s e)) (g : s.Idx → Val e) : Prop where
  read : ∀ (sig : RefSig) (κ : Kind) (sp : Space) (v : View sig κ sp s e) (f : v.ty.Contents Val) (y : s.Idx), P y → v.read Val (v.writes Val f L) y = g y

theorem Below.nil {s : Shape} {e : EltTy} (P : s.Idx → Prop) (hP : ∀ y, ¬ P y) (g : s.Idx → Val e) : Below P ([] : List (Piece Val s e)) g :=
  ⟨fun _ _ _ _ _ y hy => absurd hy (hP y)⟩

theorem Below.holds {s : Shape} {e : EltTy} {P : s.Idx → Prop} (hP : ∀ y, P y) {L : List (Piece Val s e)} {g : s.Idx → Val e} (h : Below P L g) :
    Holds L g := ⟨fun _ _ _ v f y => h.read _ _ _ v f y (hP y)⟩

/-- One more slab. -/
theorem Below.cons {s : Shape} {e : EltTy} {P P' : s.Idx → Prop} {L : List (Piece Val s e)} {g : s.Idx → Val e} (h : Below P L g)
    {off size : Fin s.rank → ℕ} (inb : ∀ a, off a + size a ≤ s.size a) (w : (Rect.unit off size inb).shape.Idx → Val e)
    (hw : ∀ x, w x = g ((Rect.unit off size inb).emb x))
    (hP : ∀ y, P' y → (∀ a, off a ≤ (y a).val ∧ (y a).val < off a + size a) ∨ P y) :
    Below P' ((⟨Rect.unit off size inb, w⟩ : Piece Val s e) :: L) g := by
  refine ⟨fun sig κ sp v f y hy => ?_⟩
  rw [View.read_writes_cons_unit v f inb w L y rfl]
  split
  · next hin =>
    rw [hw]
    refine congrArg g (funext fun a => Fin.ext ?_)
    show off a + 1 * ((y a).val - off a) = (y a).val
    have := hin a
    omega
  · next hin => exact h.read _ _ _ v f y ((hP y hy).resolve_left hin)

end Cert.KernelIdeal.Fold

end
-- ==== Proof.Window.lean ====
module

public import proofs.«01_k».proof.Proof.Fold

/-! # What one grid point leaves in its output block

The block starts at zero, and 32 windows of 64 frequencies are each read, added to and stored back. `accOut` is the block
after the first `n` of them. It is a function of the block of `x` and of what the two scratch arrays hold. -/

@[expose] public section

noncomputable section

namespace Cert.KernelIdeal.Fold

open Cert.KernelIdeal Cert.KernelIdeal.Gen Idealize.ShloMosaic Idealize.ShloMosaic.TcCoe Idealize.SL.Sem
open Idealize.ShloMosaic.View (Piece)

variable {F : FTy → Type} [FloatOps F] [∀ e, Nonempty (Elt F e)]

/-- The first frequency of band `k`. -/
def start (k : ℕ) : ℕ := 1 + 205 * k / 13

/-- The first frequency of the window of bands `2n` and `2n + 1`. -/
def base (n : ℕ) : ℕ := min (8 * (start (2 * n) / 8)) 960

theorem base_le (n : ℕ) : base n ≤ 960 := Nat.min_le_right _ _

theorem inb_win (n : ℕ) : ∀ a, (![0, base n, 0, 0] : Fin 4 → ℕ) a + S1x64x2x1024.size a ≤ S1x1025x2x1024.size a := by
  have := base_le n
  intro a
  match a with
  | ⟨0, _⟩ => exact Nat.le_refl 1
  | ⟨1, _⟩ => show base n + 64 ≤ 1025; omega
  | ⟨2, _⟩ => exact Nat.le_refl 2
  | ⟨3, _⟩ => exact Nat.le_refl 1024

theorem inb_ab (n : ℕ) : ∀ a, (![n % 32, 0, 0] : Fin 3 → ℕ) a + S1x128x128.size a ≤ S32x128x128.size a := by
  intro a
  match a with
  | ⟨0, _⟩ => show n % 32 + 1 ≤ 32; omega
  | ⟨1, _⟩ => exact Nat.le_refl 128
  | ⟨2, _⟩ => exact Nat.le_refl 128

theorem inb_bb (n : ℕ) : ∀ a, (![0, n % 32] : Fin 2 → ℕ) a + S128x1.size a ≤ S128x32.size a := by
  intro a
  match a with
  | ⟨0, _⟩ => exact Nat.le_refl 128
  | ⟨1, _⟩ => show n % 32 + 1 ≤ 32; omega

/-- What a window adds: the pair's matrix times the window of `x`, plus the pair's bias. -/
def winPay (x : Vec F S1x64x2x1024 .f32) (a : Vec F S1x128x128 .f32) (b : Vec F S128x1 .f32) : FVec F S1x64x2x1024 .f32 :=
  shapeCast S1x64x2x1024
    (addf
      (matmul dot_S128x128_S128x1024_S128x1024_1_0_0_1_n_n none (shapeCast S128x128 a shapeCasts_S1x128x128_S128x128)
        (shapeCast S128x1024 (shapeCast S1x64x2x1024 x shapeCasts_S1x64x2x1024_S1x64x2x1024) shapeCasts_S1x64x2x1024_S128x1024)
        (constant S128x1024 .f32 0x00000000#32))
      (broadcastTo S128x1024 b broadcasts_S128x1_S128x1024))
    shapeCasts_S128x1024_S1x64x2x1024

/-- The window's values stored back. -/
def addPay (o : Vec F S1x64x2x1024 .f32) (y : FVec F S1x64x2x1024 .f32) : FVec F S1x64x2x1024 .f32 :=
  addf (shapeCast S1x64x2x1024 o shapeCasts_S1x64x2x1024_S1x64x2x1024) y

/-- What window `n` adds, of the block of `x` and the scratch arrays. -/
def winAdd (x : Vec F S1x1025x2x1024 .f32) (ab : Vec F S32x128x128 .f32) (bb : Vec F S128x32 .f32) (n : ℕ) : FVec F S1x64x2x1024 .f32 :=
  winPay (fun j => x ((Rect.unit (s := S1x1025x2x1024) ![0, base n, 0, 0] S1x64x2x1024.size (inb_win n)).toLoadRect.idx j))
    (fun j => ab ((Rect.unit (s := S32x128x128) ![n % 32, 0, 0] S1x128x128.size (inb_ab n)).toLoadRect.idx j))
    (fun j => bb ((Rect.unit (s := S128x32) ![0, n % 32] S128x1.size (inb_bb n)).toLoadRect.idx j))

/-- The block after `n` windows. -/
def accOut (x : Vec F S1x1025x2x1024 .f32) (ab : Vec F S32x128x128 .f32) (bb : Vec F S128x32 .f32) : ℕ → S1x1025x2x1024.Idx → F .f32
  | 0 => k0_pay318
  | n + 1 => fun y =>
    if h : ∀ a, (![0, base n, 0, 0] : Fin 4 → ℕ) a ≤ (y a).val ∧ (y a).val < (![0, base n, 0, 0] : Fin 4 → ℕ) a + S1x64x2x1024.size a then
      FloatOps.addf (accOut x ab bb n y) (winAdd x ab bb n (Rect.unitLocal (s := S1x1025x2x1024) (off := ![0, base n, 0, 0]) (size := S1x64x2x1024.size) y h))
    else accOut x ab bb n y

/-- One window more: its values are added to what a load of it reads, and stored back. -/
theorem Holds.window {x : Vec F S1x1025x2x1024 .f32} {ab : Vec F S32x128x128 .f32} {bb : Vec F S128x32 .f32}
    {xw : ℕ → Vec F S1x64x2x1024 .f32} {aw : ℕ → Vec F S1x128x128 .f32} {bw : ℕ → Vec F S128x1 .f32}
    (hx : ∀ n, xw n = fun j => x ((Rect.unit (s := S1x1025x2x1024) ![0, base n, 0, 0] S1x64x2x1024.size (inb_win n)).toLoadRect.idx j))
    (ha : ∀ n, aw n = fun j => ab ((Rect.unit (s := S32x128x128) ![n % 32, 0, 0] S1x128x128.size (inb_ab n)).toLoadRect.idx j))
    (hb : ∀ n, bw n = fun j => bb ((Rect.unit (s := S128x32) ![0, n % 32] S128x1.size (inb_bb n)).toLoadRect.idx j))
    {sig : RefSig} {κ : Kind} {sp : Space} (v : View sig κ sp S1x1025x2x1024 .f32)
    {n : ℕ} {L : List (Piece (Elt F) S1x1025x2x1024 .f32)}
    {off : Fin 4 → ℕ} {inb : ∀ a, off a + S1x64x2x1024.size a ≤ S1x1025x2x1024.size a}
    {w : (Rect.unit (s := S1x1025x2x1024) off S1x64x2x1024.size inb).shape.Idx → Elt F .f32}
    (hoff : off = ![0, base n, 0, 0])
    (hw : w = addPay (v.readCov L (Rect.unit (s := S1x1025x2x1024) off S1x64x2x1024.size inb).toLoadRect) (winPay (xw n) (aw n) (bw n)))
    (h : Holds L (accOut x ab bb n)) :
    Holds ((⟨Rect.unit (s := S1x1025x2x1024) off S1x64x2x1024.size inb, w⟩ : Piece (Elt F) S1x1025x2x1024 .f32) :: L) (accOut x ab bb (n + 1)) := by
  subst hoff hw
  rw [hx, ha, hb]
  refine h.cons inb _ _ (fun y hy => ?_) (fun y hy => ?_)
  · rw [h.readCov]
    refine Eq.trans ?_ (dif_pos hy).symm
    unfold addPay
    rw [shapeCast_self]
    refine congrArg (FloatOps.addf · _) ?_
    refine congrArg (accOut x ab bb n) (funext fun a => Fin.ext ?_)
    show (![0, base n, 0, 0] : Fin 4 → ℕ) a + 1 * ((y a).val - (![0, base n, 0, 0] : Fin 4 → ℕ) a) = (y a).val
    have := hy a
    omega
  · unfold accOut
    refine Eq.trans ?_ (dif_neg hy).symm
    cases n <;> rfl

end Cert.KernelIdeal.Fold

end
-- ==== Proof.Prep.lean ====
module

public import proofs.«01_k».proof.Proof.Window
public import Idealize.ShloMosaic.Lib.ValueLayout

/-! # What the first grid point leaves in the two scratch arrays

Thirty-two stores fill each of them slab by slab. The slab of a pair of bands is computed from the two bands' weights, and
that computation is the same for every pair (`pairMat`, `pairBias`). -/

@[expose] public section

noncomputable section

namespace Cert.KernelIdeal.Fold

open Cert.KernelIdeal Cert.KernelIdeal.Gen Idealize.ShloMosaic Idealize.ShloMosaic.TcCoe Idealize.SL.Sem
open Idealize.ShloMosaic.View (Piece)
open Idealize.ShloMosaic.ValueIdx

variable {F : FTy → Type} [FloatOps F] [∀ e, Nonempty (Elt F e)]

theorem inb_wp (k : ℕ) : ∀ a, (![k % 64, 0, 0] : Fin 3 → ℕ) a + S1x60x16.size a ≤ S64x60x16.size a := by
  intro a
  match a with
  | ⟨0, _⟩ => show k % 64 + 1 ≤ 64; omega
  | ⟨1, _⟩ => exact Nat.le_refl 60
  | ⟨2, _⟩ => exact Nat.le_refl 16

theorem inb_wq (k : ℕ) : ∀ a, (![k % 64, 0, 0] : Fin 3 → ℕ) a + S1x16x60.size a ≤ S64x16x60.size a := by
  intro a
  match a with
  | ⟨0, _⟩ => show k % 64 + 1 ≤ 64; omega
  | ⟨1, _⟩ => exact Nat.le_refl 16
  | ⟨2, _⟩ => exact Nat.le_refl 60

theorem inb_c (k : ℕ) : ∀ a, (![k % 64, 0, 0] : Fin 3 → ℕ) a + S1x128x60.size a ≤ S64x128x60.size a := by
  intro a
  match a with
  | ⟨0, _⟩ => show k % 64 + 1 ≤ 64; omega
  | ⟨1, _⟩ => exact Nat.le_refl 128
  | ⟨2, _⟩ => exact Nat.le_refl 60

theorem inb_bp (k : ℕ) : ∀ a, (![k % 64, 0] : Fin 2 → ℕ) a + S1x16.size a ≤ S64x16.size a := by
  intro a
  match a with
  | ⟨0, _⟩ => show k % 64 + 1 ≤ 64; omega
  | ⟨1, _⟩ => exact Nat.le_refl 16

theorem inb_bq (k : ℕ) : ∀ a, (![k % 64, 0] : Fin 2 → ℕ) a + S1x60.size a ≤ S64x60.size a := by
  intro a
  match a with
  | ⟨0, _⟩ => show k % 64 + 1 ≤ 64; omega
  | ⟨1, _⟩ => exact Nat.le_refl 60

/-- A band's matrix: `((c1 · wqᵀ) · wpᵀ) · c2ᵀ`. -/
def bandMat (c1 : Vec F S1x128x60 .f32) (wq : Vec F S1x16x60 .f32) (wp : Vec F S1x60x16 .f32) (c2 : Vec F S1x128x60 .f32) : FVec F S128x128 .f32 :=
  matmul dot_S128x60_S128x60_S128x128_1_1_0_0_n_n none
    (matmul dot_S128x16_S60x16_S128x60_1_1_0_0_n_n none
      (matmul dot_S128x60_S16x60_S128x16_1_1_0_0_n_n none
        (shapeCast S128x60 (shapeCast S1x128x60 c1 shapeCasts_S1x128x60_S1x128x60) shapeCasts_S1x128x60_S128x60)
        (shapeCast S16x60 wq shapeCasts_S1x16x60_S16x60) (constant S128x16 .f32 0x00000000#32))
      (shapeCast S60x16 wp shapeCasts_S1x60x16_S60x16) (constant S128x60 .f32 0x00000000#32))
    (shapeCast S128x60 (shapeCast S1x128x60 c2 shapeCasts_S1x128x60_S1x128x60) shapeCasts_S1x128x60_S128x60)
    (constant S128x128 .f32 0x00000000#32)

/-- A band's bias: `c1 · (wqᵀ · bpᵀ) + c1 · bqᵀ`. -/
def bandBias (c1 : Vec F S1x128x60 .f32) (wq : Vec F S1x16x60 .f32) (bp : Vec F S1x16 .f32) (bq : Vec F S1x60 .f32) : FVec F S128x1 .f32 :=
  addf
    (matmul dot_S128x60_S60x1_S128x1_1_0_0_1_n_n none
      (shapeCast S128x60 (shapeCast S1x128x60 c1 shapeCasts_S1x128x60_S1x128x60) shapeCasts_S1x128x60_S128x60)
      (matmul dot_S16x60_S1x16_S60x1_0_1_1_0_n_n none (shapeCast S16x60 wq shapeCasts_S1x16x60_S16x60) bp (constant S60x1 .f32 0x00000000#32))
      (constant S128x1 .f32 0x00000000#32))
    (matmul dot_S128x60_S1x60_S128x1_1_1_0_0_n_n none
      (shapeCast S128x60 (shapeCast S1x128x60 c1 shapeCasts_S1x128x60_S1x128x60) shapeCasts_S1x128x60_S128x60) bq
      (constant S128x1 .f32 0x00000000#32))

/-- A pair's matrix, of the slabs of its two bands. -/
def pairMat (c1 : ℕ → Vec F S1x128x60 .f32) (wq : ℕ → Vec F S1x16x60 .f32) (wp : ℕ → Vec F S1x60x16 .f32) (c2 : ℕ → Vec F S1x128x60 .f32)
    (n : ℕ) : FVec F S128x128 .f32 :=
  addf (bandMat (c1 (2 * n)) (wq (2 * n)) (wp (2 * n)) (c2 (2 * n)))
    (bandMat (c1 (2 * n + 1)) (wq (2 * n + 1)) (wp (2 * n + 1)) (c2 (2 * n + 1)))

/-- A pair's bias, of the slabs of its two bands. -/
def pairBias (c1 : ℕ → Vec F S1x128x60 .f32) (wq : ℕ → Vec F S1x16x60 .f32) (bp : ℕ → Vec F S1x16 .f32) (bq : ℕ → Vec F S1x60 .f32)
    (n : ℕ) : FVec F S128x1 .f32 :=
  addf (bandBias (c1 (2 * n)) (wq (2 * n)) (bp (2 * n)) (bq (2 * n)))
    (bandBias (c1 (2 * n + 1)) (wq (2 * n + 1)) (bp (2 * n + 1)) (bq (2 * n + 1)))

/-- Band `k` of `W_pre`. -/
def slabWp (x : Vec F S64x60x16 .f32) (k : ℕ) : Vec F S1x60x16 .f32 :=
  fun j => x ((Rect.unit (s := S64x60x16) ![k % 64, 0, 0] S1x60x16.size (inb_wp k)).toLoadRect.idx j)

/-- Band `k` of `W_post`. -/
def slabWq (x : Vec F S64x16x60 .f32) (k : ℕ) : Vec F S1x16x60 .f32 :=
  fun j => x ((Rect.unit (s := S64x16x60) ![k % 64, 0, 0] S1x16x60.size (inb_wq k)).toLoadRect.idx j)

/-- Band `k` of a table of coefficients. -/
def slabC (x : Vec F S64x128x60 .f32) (k : ℕ) : Vec F S1x128x60 .f32 :=
  fun j => x ((Rect.unit (s := S64x128x60) ![k % 64, 0, 0] S1x128x60.size (inb_c k)).toLoadRect.idx j)

/-- Band `k` of `b_pre`. -/
def slabBp (x : Vec F S64x16 .f32) (k : ℕ) : Vec F S1x16 .f32 :=
  fun j => x ((Rect.unit (s := S64x16) ![k % 64, 0] S1x16.size (inb_bp k)).toLoadRect.idx j)

/-- Band `k` of `b_post`. -/
def slabBq (x : Vec F S64x60 .f32) (k : ℕ) : Vec F S1x60 .f32 :=
  fun j => x ((Rect.unit (s := S64x60) ![k % 64, 0] S1x60.size (inb_bq k)).toLoadRect.idx j)

/-- What the first scratch array is filled with. -/
def matOf (x1 : Vec F S64x60x16 .f32) (x2 : Vec F S64x16x60 .f32) (x5 x6 : Vec F S64x128x60 .f32) : Vec F S32x128x128 .f32 :=
  fun y => pairMat (slabC x5) (slabWq x2) (slabWp x1) (slabC x6) (y 0).val (ix2 (y 1) (y 2))

/-- What the second scratch array is filled with. -/
def biasOf (x2 : Vec F S64x16x60 .f32) (x3 : Vec F S64x16 .f32) (x4 : Vec F S64x60 .f32) (x5 : Vec F S64x128x60 .f32) : Vec F S128x32 .f32 :=
  fun y => pairBias (slabC x5) (slabWq x2) (slabBp x3) (slabBq x4) (y 1).val (ix2 (y 0) 0)

/-- One pair's matrix more. -/
theorem Below.mat {x1 : Vec F S64x60x16 .f32} {x2 : Vec F S64x16x60 .f32} {x5 x6 : Vec F S64x128x60 .f32}
    {c1 : ℕ → Vec F S1x128x60 .f32} {wq : ℕ → Vec F S1x16x60 .f32} {wp : ℕ → Vec F S1x60x16 .f32} {c2 : ℕ → Vec F S1x128x60 .f32}
    (h5 : ∀ k, c1 k = slabC x5 k) (h2 : ∀ k, wq k = slabWq x2 k) (h1 : ∀ k, wp k = slabWp x1 k) (h6 : ∀ k, c2 k = slabC x6 k)
    {n : ℕ} {L : List (Piece (Elt F) S32x128x128 .f32)} {off : Fin 3 → ℕ} {inb : ∀ a, off a + S1x128x128.size a ≤ S32x128x128.size a}
    {w : (Rect.unit (s := S32x128x128) off S1x128x128.size inb).shape.Idx → Elt F .f32}
    (hoff : off = ![n, 0, 0])
    (hw : w = shapeCast S1x128x128 (shapeCast S1x128x128 (pairMat c1 wq wp c2 n) shapeCasts_S128x128_S1x128x128) shapeCasts_S1x128x128_S1x128x128)
    (h : Below (fun y => (y 0).val < n) L (matOf x1 x2 x5 x6)) :
    Below (fun y => (y 0).val < n + 1) ((⟨Rect.unit (s := S32x128x128) off S1x128x128.size inb, w⟩ : Piece (Elt F) S32x128x128 .f32) :: L)
      (matOf x1 x2 x5 x6) := by
  subst hoff hw
  obtain rfl : c1 = slabC x5 := funext h5
  obtain rfl : wq = slabWq x2 := funext h2
  obtain rfl : wp = slabWp x1 := funext h1
  obtain rfl : c2 = slabC x6 := funext h6
  refine h.cons inb _ (fun x => ?_) (fun y hy => ?_)
  · rw [shapeCast_self]
    obtain ⟨r, r', rfl⟩ : ∃ (r r' : Fin 128), x = ix3 (0 : Fin 1) r r' := by
      refine ⟨x 1, x 2, (eq_ix3 x).trans ?_⟩
      have : x 0 = (0 : Fin 1) := Subsingleton.elim (α := Fin 1) _ _
      rw [this]
      rfl
    refine (shapeCast_ab_1ab_apply _ _ 0 r r').trans ?_
    unfold matOf
    have e0 : ((Rect.unit (s := S32x128x128) ![n, 0, 0] S1x128x128.size inb).emb (ix3 (0 : Fin 1) r r') 0).val = n := by
      show n + 1 * 0 = n; omega
    have e1 : ((Rect.unit (s := S32x128x128) ![n, 0, 0] S1x128x128.size inb).emb (ix3 (0 : Fin 1) r r') 1) = r := Fin.ext (by
      show 0 + 1 * r.val = r.val; omega)
    have e2 : ((Rect.unit (s := S32x128x128) ![n, 0, 0] S1x128x128.size inb).emb (ix3 (0 : Fin 1) r r') 2) = r' := Fin.ext (by
      show 0 + 1 * r'.val = r'.val; omega)
    rw [e0, e1, e2]
  · by_cases hn : (y 0).val < n
    · exact Or.inr hn
    · refine Or.inl fun a => ?_
      have hy' : (y 0).val < n + 1 := hy
      match a with
      | ⟨0, _⟩ => exact ⟨show n ≤ (y 0).val by omega, show (y 0).val < n + 1 from hy'⟩
      | ⟨1, _⟩ => exact ⟨Nat.zero_le _, show (y 1).val < 0 + 128 by have : (y 1).val < 128 := (y 1).isLt; omega⟩
      | ⟨2, _⟩ => exact ⟨Nat.zero_le _, show (y 2).val < 0 + 128 by have : (y 2).val < 128 := (y 2).isLt; omega⟩

/-- One pair's bias more. -/
theorem Below.bias {x2 : Vec F S64x16x60 .f32} {x3 : Vec F S64x16 .f32} {x4 : Vec F S64x60 .f32} {x5 : Vec F S64x128x60 .f32}
    {c1 : ℕ → Vec F S1x128x60 .f32} {wq : ℕ → Vec F S1x16x60 .f32} {bp : ℕ → Vec F S1x16 .f32} {bq : ℕ → Vec F S1x60 .f32}
    (h5 : ∀ k, c1 k = slabC x5 k) (h2 : ∀ k, wq k = slabWq x2 k) (h3 : ∀ k, bp k = slabBp x3 k) (h4 : ∀ k, bq k = slabBq x4 k)
    {n : ℕ} {L : List (Piece (Elt F) S128x32 .f32)} {off : Fin 2 → ℕ} {inb : ∀ a, off a + S128x1.size a ≤ S128x32.size a}
    {w : (Rect.unit (s := S128x32) off S128x1.size inb).shape.Idx → Elt F .f32}
    (hoff : off = ![0, n])
    (hw : w = shapeCast S128x1 (pairBias c1 wq bp bq n) shapeCasts_S128x1_S128x1)
    (h : Below (fun y => (y 1).val < n) L (biasOf x2 x3 x4 x5)) :
    Below (fun y => (y 1).val < n + 1) ((⟨Rect.unit (s := S128x32) off S128x1.size inb, w⟩ : Piece (Elt F) S128x32 .f32) :: L)
      (biasOf x2 x3 x4 x5) := by
  subst hoff hw
  obtain rfl : c1 = slabC x5 := funext h5
  obtain rfl : wq = slabWq x2 := funext h2
  obtain rfl : bp = slabBp x3 := funext h3
  obtain rfl : bq = slabBq x4 := funext h4
  refine h.cons inb _ (fun x => ?_) (fun y hy => ?_)
  · rw [shapeCast_self]
    obtain ⟨r, rfl⟩ : ∃ r : Fin 128, x = ix2 r (0 : Fin 1) := by
      refine ⟨x 0, (eq_ix2 x).trans ?_⟩
      have : x 1 = (0 : Fin 1) := Subsingleton.elim (α := Fin 1) _ _
      rw [this]
      rfl
    unfold biasOf
    have e0 : ((Rect.unit (s := S128x32) ![0, n] S128x1.size inb).emb (ix2 r (0 : Fin 1)) 0) = r := Fin.ext (by
      show 0 + 1 * r.val = r.val; omega)
    have e1 : ((Rect.unit (s := S128x32) ![0, n] S128x1.size inb).emb (ix2 r (0 : Fin 1)) 1).val = n := by
      show n + 1 * 0 = n; omega
    rw [e0, e1]
  · by_cases hn : (y 1).val < n
    · exact Or.inr hn
    · refine Or.inl fun a => ?_
      have hy' : (y 1).val < n + 1 := hy
      match a with
      | ⟨0, _⟩ => exact ⟨Nat.zero_le _, show (y 0).val < 0 + 128 by have : (y 0).val < 128 := (y 0).isLt; omega⟩
      | ⟨1, _⟩ => exact ⟨show n ≤ (y 1).val by omega, show (y 1).val < n + 1 from hy'⟩

end Cert.KernelIdeal.Fold

end
-- ==== Proof.First.lean ====
module

public import proofs.«01_k».proof.Proof.Prep

/-! # The first grid point

It fills the two scratch arrays and then computes its block from what it stored there. -/

@[expose] public section

noncomputable section

namespace Cert.KernelIdeal.Fold

open Cert.KernelIdeal Cert.KernelIdeal.Gen Idealize.ShloMosaic Idealize.ShloMosaic.TcCoe Idealize.SL.Sem
open Idealize.ShloMosaic.View (Piece)

variable {F : FTy → Type} [FloatOps F] [∀ e, Nonempty (Elt F e)]

set_option maxRecDepth 65536 in
/-- The first point's stores fill the first scratch array with the pairs' matrices. -/
theorem holds_mat (c : Dev nD) (arg3 : Memref sig .tc .vmem S64x60x16 .f32)
    (harg3 : arg3.IsWhole) (arg4 : Memref sig .tc .vmem S64x16x60 .f32) (harg4 : arg4.IsWhole) (arg7 : Memref sig .tc .vmem S64x128x60 .f32)
    (harg7 : arg7.IsWhole) (arg8 : Memref sig .tc .vmem S64x128x60 .f32) (harg8 : arg8.IsWhole)
    (x1 : Vec F S64x60x16 .f32) (x2 : Vec F S64x16x60 .f32) (x5 x6 : Vec F S64x128x60 .f32) :
    Holds (kernelRun0_A.sl.HS0_32 c arg3 harg3 arg4 harg4 arg7 harg7 arg8 harg8 x1 x2 x5 x6) (matOf x1 x2 x5 x6) := by
  refine Below.holds (P := fun y => (y 0).val < 32) (fun y => (y 0).isLt) ?_
  unfold kernelRun0_A.sl.HS0_32
  iterate 32
    refine Below.mat
      (c1 := fun k => arg7.view.readAt (Elt F) (Rect.unit (s := S64x128x60) ![k % 64, 0, 0] S1x128x60.size (inb_c k)).toLoadRect (harg7.unread x5))
      (wq := fun k => arg4.view.readAt (Elt F) (Rect.unit (s := S64x16x60) ![k % 64, 0, 0] S1x16x60.size (inb_wq k)).toLoadRect (harg4.unread x2))
      (wp := fun k => arg3.view.readAt (Elt F) (Rect.unit (s := S64x60x16) ![k % 64, 0, 0] S1x60x16.size (inb_wp k)).toLoadRect (harg3.unread x1))
      (c2 := fun k => arg8.view.readAt (Elt F) (Rect.unit (s := S64x128x60) ![k % 64, 0, 0] S1x128x60.size (inb_c k)).toLoadRect (harg8.unread x6))
      (fun k => ld_unread harg7 x5 _) (fun k => ld_unread harg4 x2 _) (fun k => ld_unread harg3 x1 _) (fun k => ld_unread harg8 x6 _) rfl rfl ?_
  exact Below.nil _ (fun y => Nat.not_lt_zero _) _

set_option maxRecDepth 65536 in
/-- The first point's stores fill the second scratch array with the pairs' biases. -/
theorem holds_bias (c : Dev nD) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole)
    (x2 : Vec F S64x16x60 .f32) (x3 : Vec F S64x16 .f32) (x4 : Vec F S64x60 .f32) (x5 : Vec F S64x128x60 .f32) :
    Holds (kernelRun0_A.sl.HS1_32 c arg4 harg4 arg5 harg5 arg6 harg6 arg7 harg7 x2 x3 x4 x5) (biasOf x2 x3 x4 x5) := by
  refine Below.holds (P := fun y => (y 1).val < 32) (fun y => (y 1).isLt) ?_
  unfold kernelRun0_A.sl.HS1_32
  iterate 32
    refine Below.bias
      (c1 := fun k => arg7.view.readAt (Elt F) (Rect.unit (s := S64x128x60) ![k % 64, 0, 0] S1x128x60.size (inb_c k)).toLoadRect (harg7.unread x5))
      (wq := fun k => arg4.view.readAt (Elt F) (Rect.unit (s := S64x16x60) ![k % 64, 0, 0] S1x16x60.size (inb_wq k)).toLoadRect (harg4.unread x2))
      (bp := fun k => arg5.view.readAt (Elt F) (Rect.unit (s := S64x16) ![k % 64, 0] S1x16.size (inb_bp k)).toLoadRect (harg5.unread x3))
      (bq := fun k => arg6.view.readAt (Elt F) (Rect.unit (s := S64x60) ![k % 64, 0] S1x60.size (inb_bq k)).toLoadRect (harg6.unread x4))
      (fun k => ld_unread harg7 x5 _) (fun k => ld_unread harg4 x2 _) (fun k => ld_unread harg5 x3 _) (fun k => ld_unread harg6 x4 _) rfl rfl ?_
  exact Below.nil _ (fun y => Nat.not_lt_zero _) _

set_option maxRecDepth 65536 in
/-- The first point's stores leave the block after its 32 windows. -/
theorem holds_first (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) :
    Holds (kernelRun0_A c i arg2 harg2 arg3 harg3 arg4 harg4 arg5 harg5 arg6 harg6 arg7 harg7 arg8 harg8 arg9 harg9 arg10 harg10 arg11 harg11
      hc0 x0 x1 x2 x3 x4 x5 x6).1 (accOut x0 (matOf x1 x2 x5 x6) (biasOf x2 x3 x4 x5) 32) := by
  have hA := holds_mat (F := F) c arg3 harg3 arg4 harg4 arg7 harg7 arg8 harg8 x1 x2 x5 x6
  have hB := holds_bias (F := F) c arg4 harg4 arg5 harg5 arg6 harg6 arg7 harg7 x2 x3 x4 x5
  unfold kernelRun0_A
  dsimp only
  iterate 32
    refine Holds.window
      (xw := fun n => arg2.view.readAt (Elt F) (Rect.unit (s := S1x1025x2x1024) ![0, base n, 0, 0] S1x64x2x1024.size (inb_win n)).toLoadRect (harg2.unread x0))
      (aw := fun n => arg10.view.readCov (kernelRun0_A.sl.HS0_32 c arg3 harg3 arg4 harg4 arg7 harg7 arg8 harg8 x1 x2 x5 x6) (Rect.unit (s := S32x128x128) ![n % 32, 0, 0] S1x128x128.size (inb_ab n)).toLoadRect)
      (bw := fun n => arg11.view.readCov (kernelRun0_A.sl.HS1_32 c arg4 harg4 arg5 harg5 arg6 harg6 arg7 harg7 x2 x3 x4 x5) (Rect.unit (s := S128x32) ![0, n % 32] S128x1.size (inb_bb n)).toLoadRect)
      (fun n => ld_unread harg2 x0 _) (fun n => hA.readCov _ _) (fun n => hB.readCov _ _) arg9.view rfl rfl ?_
  exact Holds.whole _ _ (by decide)

/-- The first point's block. -/
theorem out0_A_7_eq (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) :
    out0_A_7 c i arg2 harg2 arg3 harg3 arg4 harg4 arg5 harg5 arg6 harg6 arg7 harg7 arg8 harg8 arg9 harg9 arg10 harg10 arg11 harg11
      hc0 x0 x1 x2 x3 x4 x5 x6 = accOut x0 (matOf x1 x2 x5 x6) (biasOf x2 x3 x4 x5) 32 :=
  funext fun y => (holds_first c i arg2 harg2 arg3 harg3 arg4 harg4 arg5 harg5 arg6 harg6 arg7 harg7 arg8 harg8 arg9 harg9 arg10 harg10 arg11 harg11
    hc0 x0 x1 x2 x3 x4 x5 x6).read _ _ _ VO0_7 VO0_7.junk y

/-- The first scratch array after the first point. -/
theorem sout0_A_0_eq (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) :
    sout0_A_0 c i arg2 harg2 arg3 harg3 arg4 harg4 arg5 harg5 arg6 harg6 arg7 harg7 arg8 harg8 arg9 harg9 arg10 harg10 arg11 harg11
      hc0 x0 x1 x2 x3 x4 x5 x6 = matOf x1 x2 x5 x6 :=
  funext fun y => (holds_mat c arg3 harg3 arg4 harg4 arg7 harg7 arg8 harg8 x1 x2 x5 x6).read _ _ _ VS0_0 VS0_0.junk y

/-- The second scratch array after the first point. -/
theorem sout0_A_1_eq (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) :
    sout0_A_1 c i arg2 harg2 arg3 harg3 arg4 harg4 arg5 harg5 arg6 harg6 arg7 harg7 arg8 harg8 arg9 harg9 arg10 harg10 arg11 harg11
      hc0 x0 x1 x2 x3 x4 x5 x6 = biasOf x2 x3 x4 x5 :=
  funext fun y => (holds_bias c arg4 harg4 arg5 harg5 arg6 harg6 arg7 harg7 x2 x3 x4 x5).read _ _ _ VS0_1 VS0_1.junk y

end Cert.KernelIdeal.Fold

end
-- ==== Proof.Later.lean ====
module

public import proofs.«01_k».proof.Proof.Window

/-! # A later grid point's block

At every point but the first the two scratch arrays are read as the point before left them. -/

@[expose] public section

noncomputable section

namespace Cert.KernelIdeal.Fold

open Cert.KernelIdeal Cert.KernelIdeal.Gen Idealize.ShloMosaic Idealize.ShloMosaic.TcCoe Idealize.SL.Sem
open Idealize.ShloMosaic.View (Piece)

variable {F : FTy → Type} [FloatOps F] [∀ e, Nonempty (Elt F e)]

set_option maxRecDepth 65536 in
/-- A later point's stores leave the block after its 32 windows. -/
theorem holds_later (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : ¬cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) (xs0 : Vec F S32x128x128 .f32) (xs1 : Vec F S128x32 .f32) :
    Holds (kernelRun0_B c i arg2 harg2 arg3 harg3 arg4 harg4 arg5 harg5 arg6 harg6 arg7 harg7 arg8 harg8 arg9 harg9 arg10 harg10 arg11 harg11
      hc0 x0 x1 x2 x3 x4 x5 x6 xs0 xs1).1 (accOut x0 xs0 xs1 32) := by
  unfold kernelRun0_B
  dsimp only
  iterate 32
    refine Holds.window
      (xw := fun n => arg2.view.readAt (Elt F) (Rect.unit (s := S1x1025x2x1024) ![0, base n, 0, 0] S1x64x2x1024.size (inb_win n)).toLoadRect (harg2.unread x0))
      (aw := fun n => arg10.view.readAt (Elt F) (Rect.unit (s := S32x128x128) ![n % 32, 0, 0] S1x128x128.size (inb_ab n)).toLoadRect (harg10.unread xs0))
      (bw := fun n => arg11.view.readAt (Elt F) (Rect.unit (s := S128x32) ![0, n % 32] S128x1.size (inb_bb n)).toLoadRect (harg11.unread xs1))
      (fun n => ld_unread harg2 x0 _) (fun n => ld_unread harg10 xs0 _) (fun n => ld_unread harg11 xs1 _) arg9.view rfl rfl ?_
  exact Holds.whole _ _ (by decide)

/-- A later point's block. -/
theorem out0_B_7_eq (c : Dev nD) (i : grid0.Coords) (arg2 : Memref sig .tc .vmem S1x1025x2x1024 .f32) (harg2 : arg2.IsWhole) (arg3 : Memref sig .tc .vmem S64x60x16 .f32)
    (harg3 : arg3.IsWhole) (arg4 : Memref sig .tc .vmem S64x16x60 .f32) (harg4 : arg4.IsWhole) (arg5 : Memref sig .tc .vmem S64x16 .f32)
    (harg5 : arg5.IsWhole) (arg6 : Memref sig .tc .vmem S64x60 .f32) (harg6 : arg6.IsWhole) (arg7 : Memref sig .tc .vmem S64x128x60 .f32)
    (harg7 : arg7.IsWhole) (arg8 : Memref sig .tc .vmem S64x128x60 .f32) (harg8 : arg8.IsWhole) (arg9 : Memref sig .tc .vmem S1x1025x2x1024 .f32)
    (harg9 : arg9.IsWhole) (arg10 : Memref sig .tc .vmem S32x128x128 .f32) (harg10 : arg10.IsWhole) (arg11 : Memref sig .tc .vmem S128x32 .f32)
    (harg11 : arg11.IsWhole)
    (hc0 : ¬cond0_0 i) (x0 : Vec F S1x1025x2x1024 .f32) (x1 : Vec F S64x60x16 .f32) (x2 : Vec F S64x16x60 .f32) (x3 : Vec F S64x16 .f32)
    (x4 : Vec F S64x60 .f32) (x5 x6 : Vec F S64x128x60 .f32) (xs0 : Vec F S32x128x128 .f32) (xs1 : Vec F S128x32 .f32) :
    out0_B_7 c i arg2 harg2 arg3 harg3 arg4 harg4 arg5 harg5 arg6 harg6 arg7 harg7 arg8 harg8 arg9 harg9 arg10 harg10 arg11 harg11
      hc0 x0 x1 x2 x3 x4 x5 x6 xs0 xs1 = accOut x0 xs0 xs1 32 :=
  funext fun y => (holds_later c i arg2 harg2 arg3 harg3 arg4 harg4 arg5 harg5 arg6 harg6 arg7 harg7 arg8 harg8 arg9 harg9 arg10 harg10 arg11 harg11
    hc0 x0 x1 x2 x3 x4 x5 x6 xs0 xs1).read _ _ _ VO0_7 VO0_7.junk y

end Cert.KernelIdeal.Fold

end
-- ==== Proof.Array.lean ====
module

public import proofs.«01_k».proof.Proof.First
public import proofs.«01_k».proof.Proof.Later

/-! # What the kernel's result array holds

Every grid point is given the same weights and tables, and one batch element of `x`. The scratch arrays, filled at the first
point, are read at every later one. So the array holds, batch element by batch element, `accOut` after 32 windows. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx

variable {F : FTy → Type} [FloatOps F] [∀ e, Nonempty (Elt F e)]

variable (m : (ℓ : Loc nD τ sig) → Buf (Elt F) ℓ)

theorem whole1 : ∀ t : Fin cfg0.N, ∀ a : Fin 3, win0_1.index t a = 0 := by decide
theorem whole2 : ∀ t : Fin cfg0.N, ∀ a : Fin 3, win0_2.index t a = 0 := by decide
theorem whole3 : ∀ t : Fin cfg0.N, ∀ a : Fin 2, win0_3.index t a = 0 := by decide
theorem whole4 : ∀ t : Fin cfg0.N, ∀ a : Fin 2, win0_4.index t a = 0 := by decide
theorem whole5 : ∀ t : Fin cfg0.N, ∀ a : Fin 3, win0_5.index t a = 0 := by decide
theorem whole6 : ∀ t : Fin cfg0.N, ∀ a : Fin 3, win0_6.index t a = 0 := by decide
theorem batch0 : ∀ t : Fin cfg0.N, win0_0.index t (0 : Fin 4) = t.val ∧ win0_0.index t (1 : Fin 4) = 0 ∧ win0_0.index t (2 : Fin 4) = 0
    ∧ win0_0.index t (3 : Fin 4) = 0 := by decide

/-- Every point is given all of `W_pre`. -/
theorem iblk1 (c : Dev nD) (t : Fin cfg0.N) : (iblk m c 1 t : Vec F S64x60x16 .f32) = V m c main_arg1 := by
  funext y
  refine congrArg (V m c main_arg1) (funext fun a => Fin.ext ?_)
  show win0_1.index t a * S64x60x16.size a + 1 * (y a).val = (y a).val
  rw [whole1]; omega

/-- Every point is given all of `W_post`. -/
theorem iblk2 (c : Dev nD) (t : Fin cfg0.N) : (iblk m c 2 t : Vec F S64x16x60 .f32) = V m c main_arg3 := by
  funext y
  refine congrArg (V m c main_arg3) (funext fun a => Fin.ext ?_)
  show win0_2.index t a * S64x16x60.size a + 1 * (y a).val = (y a).val
  rw [whole2]; omega

/-- Every point is given all of `b_pre`. -/
theorem iblk3 (c : Dev nD) (t : Fin cfg0.N) : (iblk m c 3 t : Vec F S64x16 .f32) = V m c main_arg2 := by
  funext y
  refine congrArg (V m c main_arg2) (funext fun a => Fin.ext ?_)
  show win0_3.index t a * S64x16.size a + 1 * (y a).val = (y a).val
  rw [whole3]; omega

/-- Every point is given all of `b_post`. -/
theorem iblk4 (c : Dev nD) (t : Fin cfg0.N) : (iblk m c 4 t : Vec F S64x60 .f32) = V m c main_arg4 := by
  funext y
  refine congrArg (V m c main_arg4) (funext fun a => Fin.ext ?_)
  show win0_4.index t a * S64x60.size a + 1 * (y a).val = (y a).val
  rw [whole4]; omega

/-- Every point is given all of the post-scaled coefficients. -/
theorem iblk5 (c : Dev nD) (t : Fin cfg0.N) : (iblk m c 5 t : Vec F S64x128x60 .f32) = V m c main_v17 := by
  funext y
  refine congrArg (V m c main_v17) (funext fun a => Fin.ext ?_)
  show win0_5.index t a * S64x128x60.size a + 1 * (y a).val = (y a).val
  rw [whole5]; omega

/-- Every point is given all of the mask coefficients. -/
theorem iblk6 (c : Dev nD) (t : Fin cfg0.N) : (iblk m c 6 t : Vec F S64x128x60 .f32) = V m c main_v19 := by
  funext y
  refine congrArg (V m c main_v19) (funext fun a => Fin.ext ?_)
  show win0_6.index t a * S64x128x60.size a + 1 * (y a).val = (y a).val
  rw [whole6]; omega

/-- Point `t` is given batch element `t` of the transposed `x`. -/
theorem iblk0 (c : Dev nD) (t : Fin cfg0.N) (b : Fin 8) (hb : b.val = t.val) :
    (iblk m c 0 t : Vec F S1x1025x2x1024 .f32) = fun y => V m c main_v20 (ix4 b (y 1) (y 2) (y 3)) := by
  funext y
  obtain ⟨e0, e1, e2, e3⟩ := batch0 t
  refine congrArg (V m c main_v20) (funext fun a => Fin.ext ?_)
  match a with
  | ⟨0, _⟩ =>
    show win0_0.index t (0 : Fin 4) * 1 + 1 * (y 0).val = b.val
    have : (y 0).val < 1 := (y 0).isLt
    rw [e0]; omega
  | ⟨1, _⟩ => show win0_0.index t (1 : Fin 4) * 1025 + 1 * (y 1).val = (y 1).val; rw [e1]; omega
  | ⟨2, _⟩ => show win0_0.index t (2 : Fin 4) * 2 + 1 * (y 2).val = (y 2).val; rw [e2]; omega
  | ⟨3, _⟩ => show win0_0.index t (3 : Fin 4) * 1024 + 1 * (y 3).val = (y 3).val; rw [e3]; omega

/-- The pairs' matrices of the program's arguments. -/
abbrev mats (c : Dev nD) : Vec F S32x128x128 .f32 := matOf (V m c main_arg1) (V m c main_arg3) (V m c main_v17) (V m c main_v19)

/-- The pairs' biases of the program's arguments. -/
abbrev biases (c : Dev nD) : Vec F S128x32 .f32 := biasOf (V m c main_arg3) (V m c main_arg2) (V m c main_arg4) (V m c main_v17)

/-- After point `n`: its block, and the scratch arrays as the first point filled them. -/
theorem outsAt_eq (c : Dev nD) : ∀ (n : ℕ) (hn : n < cfg0.N),
    outsAt0 m c n hn = (accOut (iblk m c 0 ⟨n, hn⟩) (mats m c) (biases m c) 32, mats m c, biases m c)
  | 0, hn => by
    rw [outsAt0_A m c ⟨0, hn⟩ (Nat.zero_mod _), out0_A_7_eq, sout0_A_0_eq, sout0_A_1_eq, iblk1, iblk2, iblk3, iblk4, iblk5, iblk6]
  | n + 1, hn => by
    have hN : n + 1 < 8 := lt_of_lt_of_eq hn (show cfg0.N = 8 from N_0)
    have e := outsAt_eq c n (Nat.lt_of_succ_lt hn)
    rw [outsAt0_B m c ⟨n + 1, hn⟩ (show ¬ (n + 1) % 8 = 0 by omega), out0_B_7_eq]
    show (accOut _ (outsAt0 m c n _).2.1 (outsAt0 m c n _).2.2 32, (outsAt0 m c n _).2.1, (outsAt0 m c n _).2.2) = _
    rw [e]

theorem out_index : ∀ t : Fin cfg0.N, win0_7.index t (0 : Fin 4) = t.val ∧ win0_7.index t (1 : Fin 4) = 0 ∧ win0_7.index t (2 : Fin 4) = 0
    ∧ win0_7.index t (3 : Fin 4) = 0 := by decide

theorem out_flush : ∀ t : Fin cfg0.N, win0_7.flush t = true := by decide

/-- Two points write two blocks. -/
theorem out_apart (t t' : Fin cfg0.N) (h : t ≠ t') : Disjoint ((cfg0.win 7).blk t).view.set ((cfg0.win 7).blk t').view.set :=
  (cfg0.win 7).disjoint_blk fun e => h (Fin.ext (by
    have e0 : win0_7.index t (0 : Fin 4) = win0_7.index t' (0 : Fin 4) := congrFun e (0 : Fin 4)
    rwa [(out_index t).1, (out_index t').1] at e0))

/-- The array that the kernel's call leaves. -/
def outArr (c : Dev nD) : FVec F S8x1025x2x1024 .f32 := (dats m 0 c).arrAt 7 cfg0.N

/-- That array at an index. -/
theorem outArr_apply (c : Dev nD) (b : Fin 8) (f : Fin 1025) (ch : Fin 2) (t : Fin 1024) :
    outArr m c (ix4 b f ch t) = accOut (fun y => V m c main_v20 (ix4 b (y 1) (y 2) (y 3))) (mats m c) (biases m c) 32 (ix4 (0 : Fin 1) f ch t) := by
  have hlt : b.val < cfg0.N := lt_of_lt_of_eq b.isLt (show cfg0.N = 8 from N_0).symm
  have e := congrFun ((dats m 0 c).read_blk_arrAt_eq_flushed 7 (fun t t' _ _ h => out_apart t t' h) cfg0.N ⟨b.val, hlt⟩ hlt (out_flush _))
    (ix4 (0 : Fin 1) f ch t)
  obtain ⟨e0, e1, e2, e3⟩ := out_index ⟨b.val, hlt⟩
  have hi : ((cfg0.win 7).blk ⟨b.val, hlt⟩).view.emb (ix4 (0 : Fin 1) f ch t) = ix4 b f ch t := by
    funext a
    refine Fin.ext ?_
    match a with
    | ⟨0, _⟩ => show win0_7.index ⟨b.val, hlt⟩ (0 : Fin 4) * 1 + 1 * 0 = b.val; rw [show win0_7.index ⟨b.val, hlt⟩ (0 : Fin 4) = b.val from e0]; omega
    | ⟨1, _⟩ => show win0_7.index ⟨b.val, hlt⟩ (1 : Fin 4) * 1025 + 1 * f.val = f.val; rw [e1]; omega
    | ⟨2, _⟩ => show win0_7.index ⟨b.val, hlt⟩ (2 : Fin 4) * 2 + 1 * ch.val = ch.val; rw [e2]; omega
    | ⟨3, _⟩ => show win0_7.index ⟨b.val, hlt⟩ (3 : Fin 4) * 1024 + 1 * t.val = t.val; rw [e3]; omega
  have hl : outArr m c (((cfg0.win 7).blk ⟨b.val, hlt⟩).view.emb (ix4 (0 : Fin 1) f ch t)) = (dats m 0 c).flushed 7 ⟨b.val, hlt⟩ (ix4 (0 : Fin 1) f ch t) := e
  rw [hi] at hl
  rw [hl]
  show (cfg0.win 7).cut (grid0.coords ⟨b.val, hlt⟩) ((dats m 0 c).after 7 ⟨b.val, hlt⟩) (ix4 (0 : Fin 1) f ch t) = _
  rw [after0_7, outsAt_eq, iblk0 m c ⟨b.val, hlt⟩ b rfl]
  rfl

end Cert.KernelIdeal.Fold

end
-- ==== Proof.Take.lean ====
module

public import proofs.«01_k».proof.Proof.Gen.KernelIdeal
public import proofs.«01_k».proof.Proof.Gen.ReferenceIdeal
public import Idealize.ShloMosaic.Lib.ValueLayout
public import Idealize.ShloMosaic.Lib.IdealHost
public import Idealize.ShloMosaic.Lib.WordCmp
public import Idealize.ShloMosaic.Lib.Routing.OpsPair

/-! # Taking and adding at frequency indices

Where an index is a frequency, the wrap of negative indices changes nothing, the range test holds and a gather reads the operand
at the index. A scatter adds each update whose index is a frequency there, and drops the others. -/

@[expose] public section

noncomputable section

namespace Cert.Take

open Idealize.ShloMosaic Idealize.ShloMosaic.ValueIdx

/-- The list of indices reads frequency `f` at place `p`. -/
def Reads (a : IVec ⟨1, ![1920]⟩ 32) (p : Fin 1920) (f : Fin 1025) : Prop := (a (ix1 p)).toInt = (f.val : ℤ)

/-- The column of indices reads frequency `f` at place `p`. -/
def Reads2 (J : IVec ⟨2, ![1920, 1]⟩ 32) (p : Fin 1920) (f : Fin 1025) : Prop := (J (ix2 p (0 : Fin 1))).toInt = (f.val : ℤ)

variable {p : Fin 1920} {f : Fin 1025}

/-- The wrapped index reads the same. -/
theorem wrap_reads {a : IVec ⟨1, ![1920]⟩ 32} (ha : Reads a p f) (h : (⟨0, ![]⟩ : Shape).BroadcastsInDim ⟨1, ![1920]⟩ ![])
    (h' : (⟨1, ![1920]⟩ : Shape).BroadcastsInDim ⟨2, ![1920, 1]⟩ ![0]) (b : IVec ⟨1, ![1920]⟩ 32) :
    Reads2 (broadcastInDim ⟨2, ![1920, 1]⟩ ![0] h'
      (select (cmpi .slt a (broadcastInDim ⟨1, ![1920]⟩ ![] h (constantI ⟨0, ![]⟩ 32 0#32))) b a)) p f := by
  unfold Reads2
  rw [broadcastInDim_apply ![0] h' _ (ix2 p (0 : Fin 1)) (ix1 p) (by
    intro q
    obtain rfl : q = 0 := Subsingleton.elim _ _
    rfl)]
  have e : IntOp.cmpi .slt (a (ix1 p)) 0#32 = 0#1 := by
    rw [WordCmp.cmpi_slt_eq, WordCmp.ofBool_decide_eq_zero_iff, (ha : _ = _)]
    simp
  show (Scalar.select (IntOp.cmpi .slt (a (ix1 p)) 0#32) (b (ix1 p)) (a (ix1 p))).toInt = _
  rw [e, select_zero]
  exact ha

/-- The range test holds at the place. -/
theorem range_holds {J : IVec ⟨2, ![1920, 1]⟩ 32} (hJ : Reads2 J p f) (h0 : (⟨0, ![]⟩ : Shape).BroadcastsInDim ⟨2, ![1920, 1]⟩ ![])
    (h1 : (⟨1, ![1]⟩ : Shape).BroadcastsInDim ⟨2, ![1, 1]⟩ ![1]) (h2 : (⟨2, ![1, 1]⟩ : Shape).BroadcastsInDim ⟨2, ![1920, 1]⟩ ![0, 1])
    (hr : (⟨2, ![1920, 1]⟩ : Shape).ReducesTo [1] ⟨1, ![1920]⟩) (hu : 0 < (⟨0, ![]⟩ : Shape).numel) :
    Host.reduce IntOp.andi
      (andi (cmpi .sge J (broadcastInDim ⟨2, ![1920, 1]⟩ ![] h0 (constantI ⟨0, ![]⟩ 32 0#32)))
        (cmpi .sle J (broadcastInDim ⟨2, ![1920, 1]⟩ ![0, 1] h2 (broadcastInDim ⟨2, ![1, 1]⟩ ![1] h1 (constantI ⟨1, ![1]⟩ 32 1024#32)))))
      (constantI ⟨0, ![]⟩ 1 1#1) hr hu (ix1 p) = 1#1 := by
  have hall : ∀ u : Fin 1,
      (andi (cmpi .sge J (broadcastInDim ⟨2, ![1920, 1]⟩ ![] h0 (constantI ⟨0, ![]⟩ 32 0#32)))
        (cmpi .sle J (broadcastInDim ⟨2, ![1920, 1]⟩ ![0, 1] h2 (broadcastInDim ⟨2, ![1, 1]⟩ ![1] h1 (constantI ⟨1, ![1]⟩ 32 1024#32)))))
        (ix2 p u) = 1#1 := by
    intro u
    obtain rfl : u = 0 := Subsingleton.elim _ _
    show IntOp.andi (IntOp.cmpi .sge (J (ix2 p (0 : Fin 1))) 0#32) (IntOp.cmpi .sle (J (ix2 p (0 : Fin 1))) 1024#32) = 1#1
    have e1 : IntOp.cmpi .sge (J (ix2 p (0 : Fin 1))) 0#32 = 1#1 := by
      rw [WordCmp.cmpi_sge_eq, WordCmp.ofBool_decide_eq_one_iff, (hJ : _ = _)]
      simp
    have e2 : IntOp.cmpi .sle (J (ix2 p (0 : Fin 1))) 1024#32 = 1#1 := by
      rw [WordCmp.cmpi_sle_eq, WordCmp.ofBool_decide_eq_one_iff, (hJ : _ = _)]
      have : (1024#32 : BitVec 32).toInt = 1024 := by decide
      rw [this]
      have := f.isLt
      omega
    rw [e1, e2]
    rfl
  have hsingle : (⟨2, ![1920, 1]⟩ : Shape).Reduces [1] ⟨1, ![1920]⟩ := by decide
  rw [Host.reduce_eq_fold_single IntOp.andi _ _ hr hsingle hu]
  have hg : ∀ (f : Fin ((⟨2, ![1920, 1]⟩ : Shape).size 1) → BitVec 1), (∀ k, f k = 1#1) →
      (Finset.univ : Finset (Fin ((⟨2, ![1920, 1]⟩ : Shape).size 1))).fold IntOp.andi 1#1 f = 1#1 := by
    intro f hf
    obtain rfl : f = fun _ => 1#1 := funext hf
    decide
  refine hg _ fun k => ?_
  show (andi _ _) (hsingle.lift (ix1 p) k) = 1#1
  rw [eq_ix2 (hsingle.lift (ix1 p) k)]
  exact hall _

/-- A gather of a list of 1025 reads the list at the index. -/
theorem gather_list {α : Type} (x : (⟨1, ![1025]⟩ : Shape).Idx → α) {J : IVec ⟨2, ![1920, 1]⟩ 32} (hJ : Reads2 J p f) :
    Host.gather Cert.KernelIdeal.gather_S1025_S1920x1_S1920_n_0_n_n_0_1_1 x J (ix1 p) = x (ix1 f) := by
  unfold Host.gather
  congr 1
  funext a
  obtain rfl : a = 0 := Subsingleton.elim _ _
  refine Fin.ext ?_
  set d := Cert.KernelIdeal.gather_S1025_S1920x1_S1920_n_0_n_n_0_1_1 with hd
  show d.start (ix1 p) J 0 + d.batchCoord (ix1 p) 0 + d.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 p) ⟨List.idxOf (0 : Fin 1) d.startIndexMap, List.idxOf_lt_length_iff.2 (List.mem_singleton.mpr rfl)⟩
      = ix2 p (0 : Fin 1) := by
    funext b; refine Fin.ext ?_
    match b with
    | ⟨0, _⟩ => rfl
    | ⟨1, _⟩ => rfl
  rw [hsi, (hJ : _ = _)]
  show min (f.val : ℤ).toNat 1024 = f.val
  have := f.isLt
  omega

/-- A gather along the last axis reads it at the index. -/
theorem gather_last {α : Type} (x : (⟨4, ![8, 1024, 2, 1025]⟩ : Shape).Idx → α) {J : IVec ⟨2, ![1920, 1]⟩ 32} (hJ : Reads2 J p f)
    (b : Fin 8) (t : Fin 1024) (ch : Fin 2) :
    Host.gather Cert.ReferenceIdeal.gather_S8x1024x2x1025_S1920x1_S8x1024x2x1920_012_3_n_n_3_1_8102421 x J (ix4 b t ch p)
      = x (ix4 b t ch f) := by
  unfold Host.gather
  congr 1
  funext a
  refine Fin.ext ?_
  set d := Cert.ReferenceIdeal.gather_S8x1024x2x1025_S1920x1_S8x1024x2x1920_012_3_n_n_3_1_8102421 with hd
  show d.start (ix4 b t ch p) J a + d.batchCoord (ix4 b t ch p) a + d.offCoord (ix4 b t ch p) a = _
  rw [GatherDims.batchCoord_eq_zero _ _ _ List.not_mem_nil]
  have hst : ∀ q : Fin 4, q ≠ 3 → d.start (ix4 b t ch p) J q = 0 := by
    intro q hq
    unfold GatherDims.start
    rw [dif_neg (show ¬ q ∈ d.startIndexMap from fun h => hq (List.mem_singleton.mp h))]
  match a with
  | ⟨0, _⟩ =>
    show d.start (ix4 b t ch p) J (0 : Fin 4) + 0 + d.offCoord (ix4 b t ch p) (0 : Fin 4) = b.val
    rw [hst 0 (by decide)]
    show 0 + 0 + b.val = b.val
    omega
  | ⟨1, _⟩ =>
    show d.start (ix4 b t ch p) J (1 : Fin 4) + 0 + d.offCoord (ix4 b t ch p) (1 : Fin 4) = t.val
    rw [hst 1 (by decide)]
    show 0 + 0 + t.val = t.val
    omega
  | ⟨2, _⟩ =>
    show d.start (ix4 b t ch p) J (2 : Fin 4) + 0 + d.offCoord (ix4 b t ch p) (2 : Fin 4) = ch.val
    rw [hst 2 (by decide)]
    show 0 + 0 + ch.val = ch.val
    omega
  | ⟨3, _⟩ =>
    rw [GatherDims.offCoord_eq_zero _ _ _ (fun h => ((GatherDims.mem_sKept _ _).mp h).1 (List.mem_singleton.mpr rfl))]
    simp only [Nat.add_zero]
    show d.start (ix4 b t ch p) J (3 : Fin 4) = f.val
    unfold GatherDims.start
    rw [dif_pos (show (3 : Fin 4) ∈ d.startIndexMap from List.mem_singleton.mpr rfl)]
    have hsi : d.siIdx (ix4 b t ch p) ⟨List.idxOf (3 : Fin 4) d.startIndexMap, List.idxOf_lt_length_iff.2 (List.mem_singleton.mpr rfl)⟩
        = ix2 p (0 : Fin 1) := by
      funext b; refine Fin.ext ?_
      match b with
      | ⟨0, _⟩ => rfl
      | ⟨1, _⟩ => rfl
    show min (J (d.siIdx (ix4 b t ch p) ⟨List.idxOf (3 : Fin 4) d.startIndexMap, List.idxOf_lt_length_iff.2 (List.mem_singleton.mpr rfl)⟩)).toInt.toNat 1024 = f.val
    rw [hsi, (hJ : _ = _)]
    have := f.isLt
    omega

/-- Where an update lands. -/
theorem lands (J : IVec ⟨2, ![1920, 1]⟩ 32) (b b' : Fin 8) (t t' : Fin 1024) (ch ch' : Fin 2) (p : Fin 1920) (f : Fin 1025) :
    Cert.ReferenceIdeal.scatter_S8x1024x2x1025_S1920x1_S8x1024x2x1920_012_3_3_1.resultIdx? (ix4 b t ch p) J = some (ix4 b' t' ch' f)
      ↔ b = b' ∧ t = t' ∧ ch = ch' ∧ Reads2 J p f := by
  set d := Cert.ReferenceIdeal.scatter_S8x1024x2x1025_S1920x1_S8x1024x2x1920_012_3_3_1 with hd
  rw [Routing.resultIdx?_eq_some]
  have hst : ∀ q : Fin 4, q ≠ 3 → d.start (ix4 b t ch p) J q = 0 := by
    intro q hq
    unfold ScatterDims.start
    rw [dif_neg (show ¬ q ∈ d.scatterDimsToOperandDims from fun h => hq (List.mem_singleton.mp h))]
  have h3 : d.start (ix4 b t ch p) J (3 : Fin 4) = (J (ix2 p (0 : Fin 1))).toInt := by
    unfold ScatterDims.start
    rw [dif_pos (show (3 : Fin 4) ∈ d.scatterDimsToOperandDims from List.mem_singleton.mpr rfl)]
    have hsi : d.siIdx (ix4 b t ch p) ⟨List.idxOf (3 : Fin 4) d.scatterDimsToOperandDims, List.idxOf_lt_length_iff.2 (List.mem_singleton.mpr rfl)⟩
        = ix2 p (0 : Fin 1) := by
      funext b; refine Fin.ext ?_
      match b with
      | ⟨0, _⟩ => rfl
      | ⟨1, _⟩ => rfl
    rw [hsi]
  have w0 : d.window (ix4 b t ch p) (0 : Fin 4) = b.val := rfl
  have w1 : d.window (ix4 b t ch p) (1 : Fin 4) = t.val := rfl
  have w2 : d.window (ix4 b t ch p) (2 : Fin 4) = ch.val := rfl
  have w3 : d.window (ix4 b t ch p) (3 : Fin 4) = 0 := rfl
  constructor
  · intro h
    have q0 := h (0 : Fin 4)
    have q1 := h (1 : Fin 4)
    have q2 := h (2 : Fin 4)
    have q3 := h (3 : Fin 4)
    rw [hst _ (by decide), w0] at q0
    rw [hst _ (by decide), w1] at q1
    rw [hst _ (by decide), w2] at q2
    rw [h3, w3] at q3
    have r0 : (0 : ℤ) + (b.val : ℤ) = (b'.val : ℤ) := q0
    have r1 : (0 : ℤ) + (t.val : ℤ) = (t'.val : ℤ) := q1
    have r2 : (0 : ℤ) + (ch.val : ℤ) = (ch'.val : ℤ) := q2
    have r3 : (J (ix2 p (0 : Fin 1))).toInt + ((0 : ℕ) : ℤ) = (f.val : ℤ) := q3
    exact ⟨Fin.ext (by omega), Fin.ext (by omega), Fin.ext (by omega), r3.symm.trans (add_zero _) |>.symm⟩
  · rintro ⟨rfl, rfl, rfl, hp⟩ a
    match a with
    | ⟨0, _⟩ => exact (congrArg₂ (fun (a : ℤ) (b : ℕ) => a + (b : ℤ)) (hst 0 (by decide)) w0).trans (Int.zero_add _)
    | ⟨1, _⟩ => exact (congrArg₂ (fun (a : ℤ) (b : ℕ) => a + (b : ℤ)) (hst 1 (by decide)) w1).trans (Int.zero_add _)
    | ⟨2, _⟩ => exact (congrArg₂ (fun (a : ℤ) (b : ℕ) => a + (b : ℤ)) (hst 2 (by decide)) w2).trans (Int.zero_add _)
    | ⟨3, _⟩ => exact (congrArg₂ (fun (a : ℤ) (b : ℕ) => a + (b : ℤ)) h3 w3).trans ((Int.add_zero _).trans hp)

open Classical in
/-- A sum over the updates that land at an index is a sum over the places that read it. -/
theorem scatter_sum (J : IVec ⟨2, ![1920, 1]⟩ 32) (u : (⟨4, ![8, 1024, 2, 1920]⟩ : Shape).Idx → EReal)
    (x : (⟨4, ![8, 1024, 2, 1025]⟩ : Shape).Idx → EReal) (b : Fin 8) (t : Fin 1024) (ch : Fin 2) (f : Fin 1025) :
    Ideal.hostScatterAdd Cert.ReferenceIdeal.scatter_S8x1024x2x1025_S1920x1_S8x1024x2x1920_012_3_3_1 x J u (ix4 b t ch f)
      = x (ix4 b t ch f) + ∑ p : Fin 1920, if Reads2 J p f then u (ix4 b t ch p) else 0 := by
  unfold Ideal.hostScatterAdd
  refine congrArg (x (ix4 b t ch f) + ·) ?_
  rw [← Finset.sum_filter]
  symm
  refine Finset.sum_bij (fun p _ => (ix4 b t ch p : (⟨4, ![8, 1024, 2, 1920]⟩ : Shape).Idx)) ?_ ?_ ?_ ?_
  · intro p hp
    rw [Finset.mem_filter] at hp ⊢
    exact ⟨Finset.mem_univ _, (lands J b b t t ch ch p f).2 ⟨rfl, rfl, rfl, hp.2⟩⟩
  · intro p _ q _ h
    exact congrFun h (3 : Fin 4)
  · intro j hj
    rw [Finset.mem_filter] at hj
    obtain ⟨b', t', c', p, rfl⟩ : ∃ b' t' c' p, j = ix4 b' t' c' p := ⟨j 0, j 1, j 2, j 3, eq_ix4 j⟩
    obtain ⟨rfl, rfl, rfl, h⟩ := (lands J b' b t' t c' ch p f).1 hj.2
    exact ⟨p, Finset.mem_filter.2 ⟨Finset.mem_univ _, h⟩, rfl⟩
  · intro p _
    rfl

end Cert.Take

end
-- ==== Proof.Dots.lean ====
module

public import proofs.«01_k».proof.Proof.Prep
public import Idealize.ShloMosaic.Lib.MatmulPlain
public import Idealize.ShloMosaic.PureOps.Ideal.Laws

/-! # The two scratch slabs and a window's product at the ideal values, when every input is a real number

Each product is then the coercion of a sum of products of reals. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx

/-- A sum of coercions is the coercion of the sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A matrix by a matrix, of reals. -/
theorem real_plain {M K N : ℕ} (lhs : FVec Ideal ⟨2, ![M, K]⟩ .f32) (rhs : FVec Ideal ⟨2, ![K, N]⟩ .f32) (L : Fin M → Fin K → ℝ)
    (R : Fin K → Fin N → ℝ) (hL : ∀ r k, lhs (ix2 r k) = ((L r k : ℝ) : EReal)) (hR : ∀ k c, rhs (ix2 k c) = ((R k c : ℝ) : EReal))
    (r : Fin M) (c : Fin N) :
    FloatOps.matmul (DotDims.plain M K N) none lhs rhs (constant ⟨2, ![M, N]⟩ .f32 0x00000000#32) (ix2 r c)
      = ((∑ k : Fin K, L r k * R k c : ℝ) : EReal) := by
  rw [Ideal.matmul_plain_apply, ← coe_sum]
  show Ideal.ofBits .f32 0x00000000#32 + _ = _
  rw [Ideal.ofBits_zero_f32, zero_add]
  exact Finset.sum_congr rfl fun k _ => by rw [hL, hR, EReal.coe_mul]

/-- A matrix by a transposed matrix, of reals. -/
theorem real_nt {M K N : ℕ} (lhs : FVec Ideal ⟨2, ![M, K]⟩ .f32) (rhs : FVec Ideal ⟨2, ![N, K]⟩ .f32) (L : Fin M → Fin K → ℝ)
    (R : Fin N → Fin K → ℝ) (hL : ∀ r k, lhs (ix2 r k) = ((L r k : ℝ) : EReal)) (hR : ∀ c k, rhs (ix2 c k) = ((R c k : ℝ) : EReal))
    (r : Fin M) (c : Fin N) :
    FloatOps.matmul (DotDims.transposedRhs M K N) none lhs rhs (constant ⟨2, ![M, N]⟩ .f32 0x00000000#32) (ix2 r c)
      = ((∑ k : Fin K, L r k * R c k : ℝ) : EReal) := by
  rw [Ideal.matmul_transposedRhs_apply, ← coe_sum]
  show Ideal.ofBits .f32 0x00000000#32 + _ = _
  rw [Ideal.ofBits_zero_f32, zero_add]
  exact Finset.sum_congr rfl fun k _ => by rw [hL, hR, EReal.coe_mul]

/-- A transposed matrix by a transposed row, of reals. -/
theorem real_tt (lhs : FVec Ideal S16x60 .f32) (rhs : FVec Ideal S1x16 .f32) (L : Fin 16 → Fin 60 → ℝ) (R : Fin 16 → ℝ)
    (hL : ∀ o i, lhs (ix2 o i) = ((L o i : ℝ) : EReal)) (hR : ∀ o, rhs (ix2 (0 : Fin 1) o) = ((R o : ℝ) : EReal)) (i : Fin 60) (u : Fin 1) :
    FloatOps.matmul dot_S16x60_S1x16_S60x1_0_1_1_0_n_n none lhs rhs (constant S60x1 .f32 0x00000000#32) (ix2 i u)
      = ((∑ o : Fin 16, L o i * R o : ℝ) : EReal) := by
  rw [Ideal.matmul_constant_zero_apply,
    ← Equiv.sum_comp (contrEquiv1 dot_S16x60_S1x16_S60x1_0_1_1_0_n_n 16 rfl rfl).symm, ← coe_sum]
  refine Finset.sum_congr rfl fun o _ => ?_
  have hk := contrEquiv1_symm_val dot_S16x60_S1x16_S60x1_0_1_1_0_n_n 16 rfl rfl o
  have el : dot_S16x60_S1x16_S60x1_0_1_1_0_n_n.lhsIdx (ix2 i u) ((contrEquiv1 dot_S16x60_S1x16_S60x1_0_1_1_0_n_n 16 rfl rfl).symm o) = ix2 o i := by
    funext a; apply Fin.ext
    match a with
    | ⟨0, _⟩ => exact hk
    | ⟨1, _⟩ => rfl
  have er : dot_S16x60_S1x16_S60x1_0_1_1_0_n_n.rhsIdx (ix2 i u) ((contrEquiv1 dot_S16x60_S1x16_S60x1_0_1_1_0_n_n 16 rfl rfl).symm o) = ix2 (0 : Fin 1) o := by
    funext a; apply Fin.ext
    match a with
    | ⟨0, _⟩ =>
      have hu : u.val = 0 := by omega
      exact hu
    | ⟨1, _⟩ => exact hk
  rw [el, er, hL, hR, EReal.coe_mul]

/-- A slab with its unit axis dropped, at an index. -/
theorem drop1 {a b : ℕ} (x : (⟨3, ![1, a, b]⟩ : Shape).Idx → Ideal .f32)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h (ix2 i j) (ix3 (0 : Fin 1) i j) (by
    rw [Shape.rowMajor_val_three, Shape.rowMajor_val_two]
    show (0 * a + i.val) * b + j.val = i.val * b + j.val
    rw [Nat.zero_mul, Nat.zero_add])

/-- The same of a slab cast to its own shape first. -/
theorem drop1' {a b : ℕ} (x : (⟨3, ![1, a, b]⟩ : Shape).Idx → Ideal .f32) (h' : (⟨3, ![1, a, b]⟩ : Shape).ShapeCasts ⟨3, ![1, a, b]⟩)
    (h : (⟨3, ![1, a, b]⟩ : Shape).ShapeCasts ⟨2, ![a, b]⟩) (i : Fin a) (j : Fin b) :
    shapeCast ⟨2, ![a, b]⟩ (shapeCast ⟨3, ![1, a, b]⟩ x h') h (ix2 i j) = x (ix3 (0 : Fin 1) i j) :=
  (drop1 _ h i j).trans (shapeCast_apply x h' _ _ rfl)

/-- A band's matrix of reals. -/
def matR (C1 : Fin 128 → Fin 60 → ℝ) (WQ : Fin 16 → Fin 60 → ℝ) (WP : Fin 60 → Fin 16 → ℝ) (C2 : Fin 128 → Fin 60 → ℝ) (r r' : Fin 128) : ℝ :=
  ∑ j : Fin 60, (∑ o : Fin 16, (∑ i : Fin 60, C1 r i * WQ o i) * WP j o) * C2 r' j

/-- A band's bias of reals. -/
def biasR (C1 : Fin 128 → Fin 60 → ℝ) (WQ : Fin 16 → Fin 60 → ℝ) (BP : Fin 16 → ℝ) (BQ : Fin 60 → ℝ) (r : Fin 128) : ℝ :=
  (∑ i : Fin 60, C1 r i * ∑ o : Fin 16, WQ o i * BP o) + ∑ i : Fin 60, C1 r i * BQ i

theorem bandMat_real (c1 : Vec Ideal S1x128x60 .f32) (wq : Vec Ideal S1x16x60 .f32) (wp : Vec Ideal S1x60x16 .f32) (c2 : Vec Ideal S1x128x60 .f32)
    (C1 : Fin 128 → Fin 60 → ℝ) (WQ : Fin 16 → Fin 60 → ℝ) (WP : Fin 60 → Fin 16 → ℝ) (C2 : Fin 128 → Fin 60 → ℝ)
    (h1 : ∀ r i, c1 (ix3 (0 : Fin 1) r i) = ((C1 r i : ℝ) : EReal)) (hq : ∀ o i, wq (ix3 (0 : Fin 1) o i) = ((WQ o i : ℝ) : EReal))
    (hp : ∀ j o, wp (ix3 (0 : Fin 1) j o) = ((WP j o : ℝ) : EReal)) (h2 : ∀ r i, c2 (ix3 (0 : Fin 1) r i) = ((C2 r i : ℝ) : EReal))
    (r r' : Fin 128) : bandMat c1 wq wp c2 (ix2 r r') = ((matR C1 WQ WP C2 r r' : ℝ) : EReal) := by
  unfold bandMat matR
  refine real_nt _ _ (fun r j => ∑ o : Fin 16, (∑ i : Fin 60, C1 r i * WQ o i) * WP j o) C2 (fun r j => ?_) (fun c k => ?_) r r'
  · refine real_nt _ _ (fun r o => ∑ i : Fin 60, C1 r i * WQ o i) WP (fun r o => ?_) (fun c k => ?_) r j
    · exact real_nt _ _ C1 WQ (fun r k => (drop1' c1 _ _ r k).trans (h1 r k)) (fun c k => (drop1 wq _ c k).trans (hq c k)) r o
    · exact (drop1 wp _ c k).trans (hp c k)
  · exact (drop1' c2 _ _ c k).trans (h2 c k)

theorem bandBias_real (c1 : Vec Ideal S1x128x60 .f32) (wq : Vec Ideal S1x16x60 .f32) (bp : Vec Ideal S1x16 .f32) (bq : Vec Ideal S1x60 .f32)
    (C1 : Fin 128 → Fin 60 → ℝ) (WQ : Fin 16 → Fin 60 → ℝ) (BP : Fin 16 → ℝ) (BQ : Fin 60 → ℝ)
    (h1 : ∀ r i, c1 (ix3 (0 : Fin 1) r i) = ((C1 r i : ℝ) : EReal)) (hq : ∀ o i, wq (ix3 (0 : Fin 1) o i) = ((WQ o i : ℝ) : EReal))
    (hp : ∀ o, bp (ix2 (0 : Fin 1) o) = ((BP o : ℝ) : EReal)) (h2 : ∀ i, bq (ix2 (0 : Fin 1) i) = ((BQ i : ℝ) : EReal))
    (r : Fin 128) : bandBias c1 wq bp bq (ix2 r (0 : Fin 1)) = ((biasR C1 WQ BP BQ r : ℝ) : EReal) := by
  unfold bandBias biasR
  rw [EReal.coe_add]
  refine congrArg₂ (fun a b : EReal => a + b) ?_ ?_
  · refine real_plain _ _ C1 (fun i _ => ∑ o : Fin 16, WQ o i * BP o) (fun r k => (drop1' c1 _ _ r k).trans (h1 r k)) (fun i u => ?_) r 0
    exact real_tt _ _ WQ BP (fun o i => (drop1 wq _ o i).trans (hq o i)) hp i u
  · refine real_nt _ _ C1 (fun _ => BQ) (fun r k => (drop1' c1 _ _ r k).trans (h1 r k)) (fun u i => ?_) r 0
    obtain rfl : u = 0 := Subsingleton.elim _ _
    exact h2 i

/-- A window's values of reals. -/
theorem winPay_real (x : Vec Ideal S1x64x2x1024 .f32) (a : Vec Ideal S1x128x128 .f32) (b : Vec Ideal S128x1 .f32)
    (X : Fin 128 → Fin 1024 → ℝ) (A : Fin 128 → Fin 128 → ℝ) (B : Fin 128 → ℝ)
    (hx : ∀ (r : Fin 128) (t : Fin 1024), x (ix4 (0 : Fin 1) (⟨r.val / 2, by omega⟩ : Fin 64) (⟨r.val % 2, by omega⟩ : Fin 2) t) = ((X r t : ℝ) : EReal))
    (ha : ∀ r r', a (ix3 (0 : Fin 1) r r') = ((A r r' : ℝ) : EReal)) (hb : ∀ r, b (ix2 r (0 : Fin 1)) = ((B r : ℝ) : EReal))
    (w : Fin 64) (ch : Fin 2) (t : Fin 1024) (r : Fin 128) (hr : r.val = 2 * w.val + ch.val) :
    winPay x a b (ix4 (0 : Fin 1) w ch t) = (((∑ r' : Fin 128, A r r' * X r' t) + B r : ℝ) : EReal) := by
  unfold winPay
  rw [shapeCast_apply _ shapeCasts_S128x1024_S1x64x2x1024 (ix4 (0 : Fin 1) w ch t) (ix2 r t) (by
    rw [Shape.rowMajor_val_two, Shape.rowMajor_val_four]
    show r.val * 1024 + t.val = ((0 * 64 + w.val) * 2 + ch.val) * 1024 + t.val
    omega)]
  rw [EReal.coe_add]
  refine congrArg₂ (fun a b : EReal => a + b) ?_ ?_
  · refine real_plain _ _ A X (fun r k => (drop1 a _ r k).trans (ha r k)) (fun k t => ?_) r t
    rw [shapeCast_apply _ shapeCasts_S1x64x2x1024_S128x1024 (ix2 k t) (ix4 (0 : Fin 1) (⟨k.val / 2, by omega⟩ : Fin 64) (⟨k.val % 2, by omega⟩ : Fin 2) t) (by
      rw [Shape.rowMajor_val_two, Shape.rowMajor_val_four]
      show ((0 * 64 + k.val / 2) * 2 + k.val % 2) * 1024 + t.val = k.val * 1024 + t.val
      omega)]
    exact (shapeCast_apply x _ _ _ rfl).trans (hx k t)
  · have e : (⟨2, ![128, 1]⟩ : Shape).Broadcasts ⟨2, ![128, 1024]⟩ := broadcasts_S128x1_S128x1024
    refine Eq.trans ?_ (hb r)
    show b _ = b _
    refine congrArg b (funext fun ax => Fin.ext ?_)
    match ax with
    | ⟨0, _⟩ => rfl
    | ⟨1, _⟩ => rfl

end Cert.KernelIdeal.Fold

end
-- ==== Proof.Reals.lean ====
module

public import proofs.«01_k».proof.Proof.Dots

/-! # One band's equation in the reals

The coefficients of a band are nonzero in one entry of a row at most: the rows outside the band vanish, and a row inside it
selects one of the band's sixty places. -/

@[expose] public section

noncomputable section

namespace Cert.KernelIdeal.Fold

/-- The coefficients of a band: place `i` sits at row `i + o`. -/
def coefR (s : Fin 60 → ℝ) (o : ℕ) (r : Fin 128) (i : Fin 60) : ℝ := if r.val = i.val + o then s i else 0

/-- A row inside the band selects its place. -/
theorem coef_row (s : Fin 60 → ℝ) (o : ℕ) (r : Fin 128) (i0 : Fin 60) (h : r.val = i0.val + o) (g : Fin 60 → ℝ) :
    ∑ i : Fin 60, coefR s o r i * g i = s i0 * g i0 := by
  rw [Finset.sum_eq_single i0]
  · rw [coefR, if_pos h]
  · intro b _ hb
    rw [coefR, if_neg (fun h' => hb (Fin.ext (by omega))), zero_mul]
  · intro h'; exact absurd (Finset.mem_univ _) h'

/-- A row outside the band selects nothing. -/
theorem coef_row_none (s : Fin 60 → ℝ) (o : ℕ) (r : Fin 128) (h : ∀ i : Fin 60, r.val ≠ i.val + o) (g : Fin 60 → ℝ) :
    ∑ i : Fin 60, coefR s o r i * g i = 0 :=
  Finset.sum_eq_zero fun i _ => by rw [coefR, if_neg (h i), zero_mul]

/-- A place selects its row. -/
theorem coef_col (s : Fin 60 → ℝ) (o : ℕ) (j : Fin 60) (r0 : Fin 128) (h : r0.val = j.val + o) (g : Fin 128 → ℝ) :
    ∑ r : Fin 128, coefR s o r j * g r = s j * g r0 := by
  rw [Finset.sum_eq_single r0]
  · rw [coefR, if_pos h]
  · intro b _ hb
    rw [coefR, if_neg (fun h' => hb (Fin.ext (by omega))), zero_mul]
  · intro h'; exact absurd (Finset.mem_univ _) h'

variable (s mk : Fin 60 → ℝ) (o : ℕ) (WQ : Fin 16 → Fin 60 → ℝ) (WP : Fin 60 → Fin 16 → ℝ) (BP : Fin 16 → ℝ) (BQ : Fin 60 → ℝ)

/-- A row of a band's matrix outside the band is zero, and so is its bias. -/
theorem band_out (X : Fin 128 → ℝ) (r : Fin 128) (h : ∀ i : Fin 60, r.val ≠ i.val + o) :
    (∑ r' : Fin 128, matR (coefR s o) WQ WP (coefR mk o) r r' * X r') + biasR (coefR s o) WQ BP BQ r = 0 := by
  unfold biasR
  rw [coef_row_none s o r h, coef_row_none s o r h, add_zero, add_zero]
  refine Finset.sum_eq_zero fun r' _ => ?_
  have : matR (coefR s o) WQ WP (coefR mk o) r r' = 0 := by
    unfold matR
    simp only [coef_row_none s o r h, zero_mul, Finset.sum_const_zero]
  rw [this, zero_mul]

/-- A row inside the band: the two layers of the band, at the place the row selects. -/
theorem band_in (ho : o + 60 ≤ 128) (X : Fin 128 → ℝ) (r : Fin 128) (i : Fin 60) (h : r.val = i.val + o) :
    (∑ r' : Fin 128, matR (coefR s o) WQ WP (coefR mk o) r r' * X r') + biasR (coefR s o) WQ BP BQ r
      = s i * ((∑ p : Fin 16, ((∑ j : Fin 60, X (⟨j.val + o, by omega⟩ : Fin 128) * mk j * WP j p) + BP p) * WQ p i) + BQ i) := by
  unfold biasR
  rw [coef_row s o r i h, coef_row s o r i h]
  have hm : ∀ r', matR (coefR s o) WQ WP (coefR mk o) r r' * X r'
      = ∑ j : Fin 60, s i * (∑ p : Fin 16, WQ p i * WP j p) * (coefR mk o r' j * X r') := by
    intro r'
    unfold matR
    rw [Finset.sum_mul]
    refine Finset.sum_congr rfl fun j _ => ?_
    simp only [coef_row s o r i h]
    rw [mul_assoc]
    refine congrArg (· * _) ?_
    rw [Finset.mul_sum]
    exact Finset.sum_congr rfl fun p _ => by ring
  simp only [hm]
  rw [Finset.sum_comm]
  have hj : ∀ j : Fin 60, ∑ r' : Fin 128, s i * (∑ p : Fin 16, WQ p i * WP j p) * (coefR mk o r' j * X r')
      = ∑ p : Fin 16, s i * (WQ p i * (X (⟨j.val + o, by omega⟩ : Fin 128) * mk j * WP j p)) := by
    intro j
    rw [← Finset.mul_sum, coef_col mk o j (⟨j.val + o, by omega⟩ : Fin 128) rfl X, mul_assoc, Finset.sum_mul, Finset.mul_sum]
    exact Finset.sum_congr rfl fun p _ => by ring
  simp only [hj]
  rw [Finset.sum_comm, ← add_assoc, mul_add (s i), Finset.mul_sum, ← Finset.sum_add_distrib]
  refine congrArg (· + _) ?_
  rw [Finset.mul_sum]
  refine Finset.sum_congr rfl fun p _ => ?_
  rw [← Finset.mul_sum, ← Finset.mul_sum]
  ring

end Cert.KernelIdeal.Fold

end
-- ==== Proof.Bands.lean ====
module

public import proofs.«01_k».proof.Proof.Reals

/-! # The windows' sum is the bands' sum

A window of 64 frequencies holds its two bands. Row by row, what the kernel adds to the window is what the two bands
contribute to each frequency. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx

/-- Each band lies in its window, and in the frequencies. -/
theorem geometry : ∀ k : Fin 64, base (k.val / 2) ≤ start k.val ∧ start k.val + 30 ≤ base (k.val / 2) + 64 ∧ start k.val + 30 ≤ 1025 := by
  decide

/-- Twice the distance of a band's start from its window's. -/
def off (k : ℕ) : ℕ := 2 * (start k - base (k / 2))

theorem off_le (k : Fin 64) : off k.val + 60 ≤ 128 := by
  obtain ⟨h1, h2, _⟩ := geometry k
  unfold off; omega

/-- The frequency at place `w` of band `k`. -/
def freq (k : Fin 64) (w : Fin 30) : Fin 1025 := ⟨start k.val + w.val, by have := (geometry k).2.2; omega⟩

/-- Place `w` of band `k` in the flat lists. -/
def place (k : Fin 64) (w : Fin 30) : Fin 1920 := ⟨30 * k.val + w.val, by omega⟩

/-- The place of a row of a band's sixty. -/
def half (i : Fin 60) : Fin 30 := ⟨i.val / 2, by omega⟩

/-- The channel of a row of a band's sixty. -/
def par (i : Fin 60) : Fin 2 := ⟨i.val % 2, by omega⟩

/-- The row of a place and a channel. -/
def row (w : Fin 30) (ch : Fin 2) : Fin 60 := ⟨2 * w.val + ch.val, by omega⟩

variable (WP : Fin 64 → Fin 60 → Fin 16 → ℝ) (BP : Fin 64 → Fin 16 → ℝ) (WQ : Fin 64 → Fin 16 → Fin 60 → ℝ) (BQ : Fin 64 → Fin 60 → ℝ)
  (MK : Fin 1920 → ℝ) (RL : Fin 1025 → ℝ)

/-- What the two layers of band `k` give at row `i`. -/
def yR (X : Fin 1025 → Fin 2 → ℝ) (k : Fin 64) (i : Fin 60) : ℝ :=
  (∑ p : Fin 16, ((∑ j : Fin 60, X (freq k (half j)) (par j) * MK (place k (half j)) * WP k j p) + BP k p) * WQ k p i) + BQ k i

/-- What band `k` contributes to frequency `f`, channel `ch`. -/
def bandR (X : Fin 1025 → Fin 2 → ℝ) (k : Fin 64) (f : Fin 1025) (ch : Fin 2) : ℝ :=
  ∑ w : Fin 30, if freq k w = f then MK (place k w) * RL f * yR WP BP WQ BQ MK X k (row w ch) else 0

/-- The post-scaled coefficients of band `k`. -/
def sR (k : Fin 64) (i : Fin 60) : ℝ := MK (place k (half i)) * RL (freq k (half i))

/-- The mask coefficients of band `k`. -/
def mR (k : Fin 64) (i : Fin 60) : ℝ := MK (place k (half i))

/-- The rows of the window of band `k`. -/
def winX (X : Fin 1025 → Fin 2 → ℝ) (n : ℕ) (r : Fin 128) : ℝ :=
  X ⟨base n + r.val / 2, by have := base_le n; omega⟩ ⟨r.val % 2, by omega⟩

/-- A row of a window, of the matrix and the bias of one band. -/
def partR (X : Fin 1025 → Fin 2 → ℝ) (k : Fin 64) (n : ℕ) (r : Fin 128) : ℝ :=
  (∑ r' : Fin 128, matR (coefR (sR MK RL k) (off k.val)) (WQ k) (WP k) (coefR (mR MK k) (off k.val)) r r' * winX X n r')
    + biasR (coefR (sR MK RL k) (off k.val)) (WQ k) (BP k) (BQ k) r

/-- Inside the window, a row of the band's part is what the band contributes. -/
theorem part_in (X : Fin 1025 → Fin 2 → ℝ) (k : Fin 64) (f : Fin 1025) (ch : Fin 2) (r : Fin 128)
    (hb : base (k.val / 2) ≤ f.val) (hr : r.val = 2 * (f.val - base (k.val / 2)) + ch.val) :
    partR WP BP WQ BQ MK RL X k (k.val / 2) r = bandR WP BP WQ BQ MK RL X k f ch := by
  obtain ⟨h1, h2, h3⟩ := geometry k
  have hoff : off k.val = 2 * (start k.val - base (k.val / 2)) := rfl
  by_cases h : ∃ w : Fin 30, freq k w = f
  · obtain ⟨w, rfl⟩ := h
    have hf : (freq k w).val = start k.val + w.val := rfl
    have hi : (row w ch).val = 2 * w.val + ch.val := rfl
    unfold bandR
    rw [Finset.sum_eq_single w]
    · rw [if_pos rfl]
      unfold partR
      rw [band_in (sR MK RL k) (mR MK k) (off k.val) (WQ k) (WP k) (BP k) (BQ k) (off_le k) (winX X (k.val / 2)) r (row w ch) (by omega)]
      have hh : half (row w ch) = w := Fin.ext (by show (2 * w.val + ch.val) / 2 = w.val; omega)
      have hx : ∀ (j : Fin 60) (q : j.val + off k.val < 128), winX X (k.val / 2) ⟨j.val + off k.val, q⟩ = X (freq k (half j)) (par j) := by
        intro j q
        unfold winX
        refine congrArg₂ X (Fin.ext ?_) (Fin.ext ?_)
        · show base (k.val / 2) + (j.val + off k.val) / 2 = start k.val + j.val / 2
          omega
        · show (j.val + off k.val) % 2 = j.val % 2
          omega
      simp only [hx]
      unfold yR sR mR
      rw [hh]
    · intro w' _ hw'
      refine if_neg fun he => hw' (Fin.ext ?_)
      have : start k.val + w'.val = start k.val + w.val := congrArg Fin.val he
      omega
    · intro h'; exact absurd (Finset.mem_univ _) h'
  · have hz : bandR WP BP WQ BQ MK RL X k f ch = 0 :=
      Finset.sum_eq_zero fun w _ => if_neg fun he => h ⟨w, he⟩
    rw [hz]
    refine band_out _ _ _ _ _ _ _ _ _ fun i hi => h ⟨half i, Fin.ext ?_⟩
    show start k.val + i.val / 2 = f.val
    omega

/-- Outside its window a band contributes nothing. -/
theorem part_out (X : Fin 1025 → Fin 2 → ℝ) (k : Fin 64) (f : Fin 1025) (ch : Fin 2)
    (hb : ¬ (base (k.val / 2) ≤ f.val ∧ f.val < base (k.val / 2) + 64)) : bandR WP BP WQ BQ MK RL X k f ch = 0 := by
  obtain ⟨h1, h2, h3⟩ := geometry k
  refine Finset.sum_eq_zero fun w _ => if_neg fun he => hb ?_
  have : start k.val + w.val = f.val := congrArg Fin.val he
  omega

/-- The number of a band, of a natural. -/
def fk (k : ℕ) : Fin 64 := ⟨k % 64, Nat.mod_lt _ (by decide)⟩

/-- The matrix of pair `n`. -/
def pairA (n : ℕ) (r r' : Fin 128) : ℝ :=
  matR (coefR (sR MK RL (fk (2 * n))) (off (fk (2 * n)).val)) (WQ (fk (2 * n))) (WP (fk (2 * n))) (coefR (mR MK (fk (2 * n))) (off (fk (2 * n)).val)) r r'
    + matR (coefR (sR MK RL (fk (2 * n + 1))) (off (fk (2 * n + 1)).val)) (WQ (fk (2 * n + 1))) (WP (fk (2 * n + 1)))
        (coefR (mR MK (fk (2 * n + 1))) (off (fk (2 * n + 1)).val)) r r'

/-- The bias of pair `n`. -/
def pairB (n : ℕ) (r : Fin 128) : ℝ :=
  biasR (coefR (sR MK RL (fk (2 * n))) (off (fk (2 * n)).val)) (WQ (fk (2 * n))) (BP (fk (2 * n))) (BQ (fk (2 * n))) r
    + biasR (coefR (sR MK RL (fk (2 * n + 1))) (off (fk (2 * n + 1)).val)) (WQ (fk (2 * n + 1))) (BP (fk (2 * n + 1))) (BQ (fk (2 * n + 1))) r

/-- The row of a window at a frequency and a channel. -/
theorem row_lt {f n ch : ℕ} (h : base n ≤ f ∧ f < base n + 64) (hc : ch < 2) : 2 * (f - base n) + ch < 128 := by omega

/-- A window's row is what its two bands contribute. -/
theorem pair_row (X : Fin 1025 → Fin 2 → ℝ) (n : ℕ) (hn : n < 32) (f : Fin 1025) (ch : Fin 2) (h : base n ≤ f.val ∧ f.val < base n + 64) :
    (∑ r' : Fin 128, pairA WP WQ MK RL n ⟨2 * (f.val - base n) + ch.val, row_lt h ch.isLt⟩ r' * winX X n r')
        + pairB BP WQ BQ MK RL n ⟨2 * (f.val - base n) + ch.val, row_lt h ch.isLt⟩
      = bandR WP BP WQ BQ MK RL X (fk (2 * n)) f ch + bandR WP BP WQ BQ MK RL X (fk (2 * n + 1)) f ch := by
  have e0 : (fk (2 * n)).val / 2 = n := by show 2 * n % 64 / 2 = n; omega
  have e1 : (fk (2 * n + 1)).val / 2 = n := by show (2 * n + 1) % 64 / 2 = n; omega
  rw [← part_in WP BP WQ BQ MK RL X (fk (2 * n)) f ch ⟨2 * (f.val - base n) + ch.val, row_lt h ch.isLt⟩ (by rw [e0]; exact h.1) (by rw [e0]),
    ← part_in WP BP WQ BQ MK RL X (fk (2 * n + 1)) f ch ⟨2 * (f.val - base n) + ch.val, row_lt h ch.isLt⟩ (by rw [e1]; exact h.1) (by rw [e1]), e0, e1]
  unfold partR pairA pairB
  simp only [add_mul, Finset.sum_add_distrib]
  ring

/-- Outside a window its two bands contribute nothing. -/
theorem pair_out (X : Fin 1025 → Fin 2 → ℝ) (n : ℕ) (hn : n < 32) (f : Fin 1025) (ch : Fin 2) (h : ¬ (base n ≤ f.val ∧ f.val < base n + 64)) :
    bandR WP BP WQ BQ MK RL X (fk (2 * n)) f ch + bandR WP BP WQ BQ MK RL X (fk (2 * n + 1)) f ch = 0 := by
  have e0 : (fk (2 * n)).val / 2 = n := by show 2 * n % 64 / 2 = n; omega
  have e1 : (fk (2 * n + 1)).val / 2 = n := by show (2 * n + 1) % 64 / 2 = n; omega
  rw [part_out _ _ _ _ _ _ _ _ _ _ (by rw [e0]; exact h), part_out _ _ _ _ _ _ _ _ _ _ (by rw [e1]; exact h), add_zero]

/-- The pairs' sum is the bands' sum. -/
theorem sum_pairs (g : Fin 64 → ℝ) : ∀ n : ℕ, ∑ i ∈ Finset.range n, (g (fk (2 * i)) + g (fk (2 * i + 1))) = ∑ k ∈ Finset.range (2 * n), g (fk k)
  | 0 => by simp
  | n + 1 => by
    rw [Finset.sum_range_succ, sum_pairs g n, show 2 * (n + 1) = 2 * n + 1 + 1 from by ring, Finset.sum_range_succ, Finset.sum_range_succ, add_assoc]

theorem sum_bands (g : Fin 64 → ℝ) : ∑ i ∈ Finset.range 32, (g (fk (2 * i)) + g (fk (2 * i + 1))) = ∑ k : Fin 64, g k := by
  rw [sum_pairs, Finset.sum_range]
  exact Finset.sum_congr rfl fun k _ => congrArg g (Fin.ext (Nat.mod_eq_of_lt k.isLt))

/-- The block after `n` windows, of reals. -/
theorem accOut_real (x : Vec Ideal S1x1025x2x1024 .f32) (ab : Vec Ideal S32x128x128 .f32) (bb : Vec Ideal S128x32 .f32)
    (X : Fin 1024 → Fin 1025 → Fin 2 → ℝ)
    (hx : ∀ f ch t, x (ix4 (0 : Fin 1) f ch t) = ((X t f ch : ℝ) : EReal))
    (ha : ∀ (n : Fin 32) r r', ab (ix3 n r r') = ((pairA WP WQ MK RL n.val r r' : ℝ) : EReal))
    (hb : ∀ (n : Fin 32) r, bb (ix2 r n) = ((pairB BP WQ BQ MK RL n.val r : ℝ) : EReal))
    (f : Fin 1025) (ch : Fin 2) (t : Fin 1024) : ∀ n : ℕ, n ≤ 32 →
    accOut x ab bb n (ix4 (0 : Fin 1) f ch t)
      = ((∑ i ∈ Finset.range n, (bandR WP BP WQ BQ MK RL (X t) (fk (2 * i)) f ch + bandR WP BP WQ BQ MK RL (X t) (fk (2 * i + 1)) f ch) : ℝ) : EReal)
  | 0, _ => by
    rw [Finset.sum_range_zero, EReal.coe_zero]
    exact Ideal.ofBits_zero_f32
  | n + 1, hn => by
    have hn' : n < 32 := hn
    have hm : n % 32 = n := Nat.mod_eq_of_lt hn'
    rw [accOut, Finset.sum_range_succ, EReal.coe_add]
    beta_reduce
    by_cases hw : base n ≤ f.val ∧ f.val < base n + 64
    · have hall : ∀ a, (![0, base n, 0, 0] : Fin 4 → ℕ) a ≤ ((ix4 (0 : Fin 1) f ch t : S1x1025x2x1024.Idx) a).val
          ∧ ((ix4 (0 : Fin 1) f ch t : S1x1025x2x1024.Idx) a).val < (![0, base n, 0, 0] : Fin 4 → ℕ) a + S1x64x2x1024.size a := by
        intro a
        match a with
        | ⟨0, _⟩ => exact ⟨Nat.zero_le _, Nat.one_pos⟩
        | ⟨1, _⟩ => exact hw
        | ⟨2, _⟩ => exact ⟨Nat.zero_le _, by show ch.val < 0 + 2; omega⟩
        | ⟨3, _⟩ => exact ⟨Nat.zero_le _, by show t.val < 0 + 1024; omega⟩
      rw [dif_pos hall]
      refine congrArg₂ (fun a b : EReal => a + b) (accOut_real x ab bb X hx ha hb f ch t n (by omega)) ?_
      have hl : (Rect.unitLocal (s := S1x1025x2x1024) (off := ![0, base n, 0, 0]) (size := S1x64x2x1024.size) (ix4 (0 : Fin 1) f ch t) hall)
          = ix4 (0 : Fin 1) (⟨f.val - base n, by omega⟩ : Fin 64) ch t := by
        funext a
        refine Fin.ext ?_
        match a with
        | ⟨0, _⟩ => rfl
        | ⟨1, _⟩ => rfl
        | ⟨2, _⟩ => rfl
        | ⟨3, _⟩ => rfl
      rw [hl, ← pair_row WP BP WQ BQ MK RL (X t) n hn' f ch hw]
      unfold winAdd
      refine winPay_real _ _ _ (fun r t => winX (X t) n r) (pairA WP WQ MK RL n) (pairB BP WQ BQ MK RL n) (fun r t => ?_) (fun r r' => ?_) (fun r => ?_)
        (⟨f.val - base n, by omega⟩ : Fin 64) ch t ⟨2 * (f.val - base n) + ch.val, row_lt hw ch.isLt⟩ rfl
      · unfold winX
        rw [← hx]
        refine congrArg x (funext fun a => Fin.ext ?_)
        match a with
        | ⟨0, _⟩ => rfl
        | ⟨1, _⟩ => show base n + 1 * (r.val / 2) = base n + r.val / 2; omega
        | ⟨2, _⟩ => show 0 + 1 * (r.val % 2) = r.val % 2; omega
        | ⟨3, _⟩ => show 0 + 1 * t.val = t.val; omega
      · refine Eq.trans (congrArg ab (funext fun a => Fin.ext ?_)) (ha ⟨n, hn'⟩ r r')
        match a with
        | ⟨0, _⟩ => show n % 32 + 1 * 0 = n; omega
        | ⟨1, _⟩ => show 0 + 1 * r.val = r.val; omega
        | ⟨2, _⟩ => show 0 + 1 * r'.val = r'.val; omega
      · refine Eq.trans (congrArg bb (funext fun a => Fin.ext ?_)) (hb ⟨n, hn'⟩ r)
        match a with
        | ⟨0, _⟩ => show 0 + 1 * r.val = r.val; omega
        | ⟨1, _⟩ => show n % 32 + 1 * 0 = n; omega
    · rw [dif_neg (fun hall => hw (hall (1 : Fin 4))), accOut_real x ab bb X hx ha hb f ch t n (by omega), pair_out _ _ _ _ _ _ _ n hn' _ _ hw,
        EReal.coe_zero, add_zero]

end Cert.KernelIdeal.Fold

end
-- ==== Proof.Host.lean ====
module

public import proofs.«01_k».proof.Proof.Array
public import proofs.«01_k».proof.Proof.Take
public import proofs.«01_k».proof.Proof.Bands

/-! # The band tables

What the host makes of the mask, the overlap and the indices: two tables of each band's rows, with one value on the shifted
diagonal and zero off it; and the input with its last two axes swapped. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx
open Cert.Take

/-- A list of 1920 as the sixty rows of each band. -/
def spread (a : FVec Ideal S1920 .f32) : FVec Ideal S64x60 .f32 :=
  shapeCast S64x60 (broadcastInDim S64x30x2 ![0, 1] bcast_S64x30_S64x30x2_0_1 (shapeCast S64x30 a shapeCasts_S1920_S64x30)) shapeCasts_S64x30x2_S64x60

/-- The wrapped indices, as a column. -/
def idxCol (a7 : IVec S1920 32) : IVec S1920x1 32 :=
  broadcastInDim S1920x1 ![0] bcast_S1920_S1920x1_0 (select (cmpi .slt a7 (broadcastInDim S1920 ![] bcast_S_S1920 (constantI S_ 32 0#32)))
    (addi a7 (broadcastInDim S1920 ![] bcast_S_S1920 (constantI S_ 32 1025#32))) a7)

/-- The inverse of the overlap at each place's frequency. -/
def inv (a6 : FVec Ideal S1025 .f32) (a7 : IVec S1920 32) : FVec Ideal S1920 .f32 :=
  select (Host.reduce IntOp.andi (andi
      (cmpi .sge (idxCol a7) (broadcastInDim S1920x1 ![] bcast_S_S1920x1 (constantI S_ 32 0#32)))
      (cmpi .sle (idxCol a7) (broadcastInDim S1920x1 ![0, 1] bcast_S1x1_S1920x1_0_1 (broadcastInDim S1x1 ![1] bcast_S1_S1x1_1 (constantI S1 32 1024#32)))))
      (constantI S_ 1 1#1) reducesTo_S1920x1_S1920_d1 h_S_)
    (Host.gather gather_S1025_S1920x1_S1920_n_0_n_n_0_1_1
      (Host.divf (broadcastInDim S1025 ![] bcast_S_S1025 (constant S_ .f32 0x3F800000#32)) a6) (idxCol a7))
    (broadcastInDim S1920 ![] bcast_S_S1920 (constant S_ .f32 0x7FC00000#32))

/-- The test of the shifted diagonal. -/
def diag : IVec S64x128x60 1 :=
  cmpi .eq (iotaInDim S64x128x60 32 1) (addi (iotaInDim S64x128x60 32 2)
    (broadcastInDim S64x128x60 ![0, 1, 2] bcast_S64x1x1_S64x128x60_0_1_2
      (broadcastInDim S64x1x1 ![0] bcast_S64_S64x1x1_0 fun i => lit0 (S64.rowMajor i))))

/-- Values on the shifted diagonal, zero off it. -/
def onDiag (v : FVec Ideal S64x60 .f32) : FVec Ideal S64x128x60 .f32 :=
  select diag (broadcastInDim S64x128x60 ![0, 1, 2] bcast_S64x1x60_S64x128x60_0_1_2 (broadcastInDim S64x1x60 ![0, 2] bcast_S64x60_S64x1x60_0_2 v))
    (broadcastInDim S64x128x60 ![] bcast_S_S64x128x60 (constant S_ .f32 0x00000000#32))

section terms

variable (m : (ℓ : Loc nD τ sig) → Buf (Elt Ideal) ℓ)

set_option maxRecDepth 8192 in
set_option maxHeartbeats 2000000 in
theorem out_term (c : Dev nD) : V m c main_v17 = onDiag (mulf (spread (m ((c.tc : Thread nD τ).loc main_arg5)))
    (spread (inv (m ((c.tc : Thread nD τ).loc main_arg6)) (m ((c.tc : Thread nD τ).loc main_arg7))))) := by
  simp only [V, V0, hostOps0, hostOps0_1, hostOps0_2, hostOps0_3, hostOps0_4, hostOps0_5, hostOps0_6, List.flatten_cons, List.flatten_nil,
    List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxRecDepth 8192 in
set_option maxHeartbeats 2000000 in
theorem in_term (c : Dev nD) : V m c main_v19 = onDiag (spread (m ((c.tc : Thread nD τ).loc main_arg5))) := by
  simp only [V, V0, hostOps0, hostOps0_1, hostOps0_2, hostOps0_3, hostOps0_4, hostOps0_5, hostOps0_6, List.flatten_cons, List.flatten_nil,
    List.cons_append, List.nil_append, List.append_nil, StableHlo.TRef.binary, StableHlo.TRef.nullary, StableHlo.TRef.ternary,
    StableHlo.TRef.unary, StableHlo.TRef.toBuf, StableHlo.TRef.ofBuf, cast_eq]
  after_results_simp
  rfl

set_option maxRecDepth 8192 in
set_option maxHeartbeats 2000000 in
theorem swap_term (c : Dev nD) : V m c main_v20 = transpose S8x1025x2x1024 [0, 1, 3, 2] (m ((c.tc : Thread nD τ).loc main_arg0))
    transposes_S8x1025x1024x2_S8x1025x2x1024_0_1_3_2 := by
  simp only [V, V0, hostOps0, hostOps0_1, hostOps0_2, hostOps0_3, hostOps0_4, hostOps0_5, hostOps0_6, List.flatten_cons, List.flatten_nil,
    List.cons_append, List.nil_append, List.append_nil, StableHlo.TRef.binary, StableHlo.TRef.nullary, StableHlo.TRef.ternary,
    StableHlo.TRef.unary, StableHlo.TRef.toBuf, StableHlo.TRef.ofBuf, cast_eq]
  after_results_simp

theorem swap_apply (c : Dev nD) (b : Fin 8) (f : Fin 1025) (ch : Fin 2) (t : Fin 1024) :
    V m c main_v20 (ix4 b f ch t) = m ((c.tc : Thread nD τ).loc main_arg0) (ix4 b f t ch) := by
  rw [swap_term]
  exact transpose_apply [0, 1, 3, 2] _ _ (ix4 b f ch t) (ix4 b f t ch) (by
    intro q
    match q with
    | ⟨0, _⟩ => rfl
    | ⟨1, _⟩ => rfl
    | ⟨2, _⟩ => rfl
    | ⟨3, _⟩ => rfl)

end terms

theorem spread_apply (a : FVec Ideal S1920 .f32) (k : Fin 64) (i : Fin 60) : spread a (ix2 k i) = a (ix1 (place k (half i))) := by
  unfold spread
  rw [shapeCast_apply _ shapeCasts_S64x30x2_S64x60 (ix2 k i) (ix3 k (half i) (par i)) (by
      rw [Shape.rowMajor_val_three, Shape.rowMajor_val_two]
      show (k.val * 30 + i.val / 2) * 2 + i.val % 2 = k.val * 60 + i.val
      omega),
    broadcastInDim_apply ![0, 1] _ _ (ix3 k (half i) (par i)) (ix2 k (half i)) (by
      intro q
      match q with
      | ⟨0, _⟩ => rfl
      | ⟨1, _⟩ => rfl),
    shapeCast_apply _ shapeCasts_S1920_S64x30 (ix2 k (half i)) (ix1 (place k (half i))) (by
      rw [Shape.rowMajor_val_one, Shape.rowMajor_val_two]
      show 30 * k.val + i.val / 2 = k.val * 30 + i.val / 2
      omega)]

/-- The starts, as the kernel's table has them. -/
theorem starts_word : ∀ k : Fin 64, lit0 k = BitVec.ofNat 32 (off k.val) := by
  decide

theorem diag_apply (k : Fin 64) (r : Fin 128) (i : Fin 60) : diag (ix3 k r i) = BitVec.ofBool (decide (r.val = i.val + off k.val)) := by
  have hk := off_le k
  unfold diag
  show IntOp.cmpi .eq (BitVec.ofNat 32 r.val) (IntOp.addi (BitVec.ofNat 32 i.val) _) = _
  rw [broadcastInDim_apply ![0, 1, 2] bcast_S64x1x1_S64x128x60_0_1_2 _ (ix3 k r i) (ix3 k (0 : Fin 1) (0 : Fin 1)) (by
      intro q
      match q with
      | ⟨0, _⟩ => rfl
      | ⟨1, _⟩ => rfl
      | ⟨2, _⟩ => rfl),
    broadcastInDim_apply ![0] bcast_S64_S64x1x1_0 _ (ix3 k (0 : Fin 1) (0 : Fin 1)) (ix1 k) (by
      intro q
      obtain rfl : q = 0 := Subsingleton.elim _ _
      rfl)]
  have e : S64.rowMajor (ix1 k) = k := Fin.ext (Shape.rowMajor_val_one _)
  beta_reduce
  rw [e, starts_word]
  show BitVec.ofBool (decide (BitVec.ofNat 32 r.val = BitVec.ofNat 32 i.val + BitVec.ofNat 32 (off k.val))) = _
  congr 1
  rw [← BitVec.ofNat_add]
  refine decide_eq_decide.mpr ⟨fun h => ?_, fun h => by rw [h]⟩
  have := congrArg BitVec.toNat h
  simp only [BitVec.toNat_ofNat] at this
  omega

theorem onDiag_apply (v : FVec Ideal S64x60 .f32) (s : Fin 64 → Fin 60 → ℝ) (hv : ∀ k i, v (ix2 k i) = ((s k i : ℝ) : EReal))
    (k : Fin 64) (r : Fin 128) (i : Fin 60) : onDiag v (ix3 k r i) = ((coefR (s k) (off k.val) r i : ℝ) : EReal) := by
  unfold onDiag
  rw [select_apply, diag_apply,
    broadcastInDim_apply ![0, 1, 2] bcast_S64x1x60_S64x128x60_0_1_2 _ (ix3 k r i) (ix3 k (0 : Fin 1) i) (by
      intro q
      match q with
      | ⟨0, _⟩ => rfl
      | ⟨1, _⟩ => rfl
      | ⟨2, _⟩ => rfl),
    broadcastInDim_apply ![0, 2] bcast_S64x60_S64x1x60_0_2 _ (ix3 k (0 : Fin 1) i) (ix2 k i) (by
      intro q
      match q with
      | ⟨0, _⟩ => rfl
      | ⟨1, _⟩ => rfl), hv]
  unfold coefR
  by_cases h : r.val = i.val + off k.val
  · rw [if_pos h, decide_eq_true h]
    rfl
  · rw [if_neg h, decide_eq_false h]
    show (Ideal.ofBits .f32 0x00000000#32 : EReal) = _
    rw [Ideal.ofBits_zero_f32]
    rfl

variable {p : Fin 1920} {f : Fin 1025}

theorem inv_apply (a6 : FVec Ideal S1025 .f32) {a7 : IVec S1920 32} (h : Reads a7 p f) :
    inv a6 a7 (ix1 p) = Ideal.div 1 (a6 (ix1 f)) := by
  have hc : Reads2 (idxCol a7) p f := wrap_reads h _ _ _
  unfold inv
  rw [select_apply, range_holds hc, select_one, gather_list _ hc]
  show Ideal.div (Ideal.ofBits .f32 0x3F800000#32) _ = _
  rw [Ideal.ofBits_one_f32]

/-- The table that reads a band's rows. -/
theorem in_table (a5 : FVec Ideal S1920 .f32) (MK : Fin 1920 → ℝ) (h5 : ∀ p, a5 (ix1 p) = ((MK p : ℝ) : EReal))
    (k : Fin 64) (r : Fin 128) (i : Fin 60) : onDiag (spread a5) (ix3 k r i) = ((coefR (mR MK k) (off k.val) r i : ℝ) : EReal) :=
  onDiag_apply _ (mR MK) (fun k i => by rw [spread_apply, h5]; rfl) k r i

/-- The table that adds a band's rows, each divided by its frequency's overlap. -/
theorem out_table (a5 : FVec Ideal S1920 .f32) (a6 : FVec Ideal S1025 .f32) (a7 : IVec S1920 32)
    (MK : Fin 1920 → ℝ) (RL : Fin 1025 → ℝ) (h5 : ∀ p, a5 (ix1 p) = ((MK p : ℝ) : EReal))
    (h6 : ∀ f, Ideal.div 1 (a6 (ix1 f)) = ((RL f : ℝ) : EReal)) (hg : ∀ k w, MK (place k w) = 0 ∨ Reads a7 (place k w) (freq k w))
    (k : Fin 64) (r : Fin 128) (i : Fin 60) :
    onDiag (mulf (spread a5) (spread (inv a6 a7))) (ix3 k r i) = ((coefR (sR MK RL k) (off k.val) r i : ℝ) : EReal) := by
  refine onDiag_apply _ (sR MK RL) (fun k i => ?_) k r i
  rw [mulf_apply, spread_apply, spread_apply, h5]
  unfold sR
  rcases hg k (half i) with e | e
  · rw [e, zero_mul]
    exact zero_mul _
  · rw [inv_apply a6 e, h6, ← EReal.coe_mul]

end Cert.KernelIdeal.Fold

end
-- ==== Proof.Kernel.lean ====
module

public import proofs.«01_k».proof.Proof.Host

/-! # The kernel at an index

With the floats real, an entry of the kernel's result is the sum of what the 64 bands contribute to it. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx
open Cert.Take

/-- Arguments whose floats are real, whose overlap has a real inverse, and whose indices are the bands' frequencies wherever
the mask is not zero. -/
structure Good (a0 : FVec Ideal S8x1025x1024x2 .f32) (a1 : FVec Ideal S64x60x16 .f32) (a2 : FVec Ideal S64x16 .f32)
    (a3 : FVec Ideal S64x16x60 .f32) (a4 : FVec Ideal S64x60 .f32) (a5 : FVec Ideal S1920 .f32) (a6 : FVec Ideal S1025 .f32)
    (a7 : IVec S1920 32) (X : Fin 8 → Fin 1024 → Fin 1025 → Fin 2 → ℝ) (WP : Fin 64 → Fin 60 → Fin 16 → ℝ) (BP : Fin 64 → Fin 16 → ℝ)
    (WQ : Fin 64 → Fin 16 → Fin 60 → ℝ) (BQ : Fin 64 → Fin 60 → ℝ) (MK : Fin 1920 → ℝ) (RL : Fin 1025 → ℝ) : Prop where
  x : ∀ b f t ch, a0 (ix4 b f t ch) = ((X b t f ch : ℝ) : EReal)
  wp : ∀ k j o, a1 (ix3 k j o) = ((WP k j o : ℝ) : EReal)
  bp : ∀ k o, a2 (ix2 k o) = ((BP k o : ℝ) : EReal)
  wq : ∀ k o i, a3 (ix3 k o i) = ((WQ k o i : ℝ) : EReal)
  bq : ∀ k i, a4 (ix2 k i) = ((BQ k i : ℝ) : EReal)
  mask : ∀ p, a5 (ix1 p) = ((MK p : ℝ) : EReal)
  ne : ∀ f, a6 (ix1 f) ≠ 0
  rl : ∀ f, Ideal.div 1 (a6 (ix1 f)) = ((RL f : ℝ) : EReal)
  at_band : ∀ k w, MK (place k w) = 0 ∨ Reads a7 (place k w) (freq k w)

theorem slabWp_apply (x : Vec Ideal S64x60x16 .f32) (k : ℕ) (j : Fin 60) (o : Fin 16) : slabWp x k (ix3 (0 : Fin 1) j o) = x (ix3 (fk k) j o) := by
  refine congrArg x (funext fun q => Fin.ext ?_)
  match q with
  | ⟨0, _⟩ => show k % 64 + 1 * 0 = k % 64; omega
  | ⟨1, _⟩ => show 0 + 1 * j.val = j.val; omega
  | ⟨2, _⟩ => show 0 + 1 * o.val = o.val; omega

theorem slabWq_apply (x : Vec Ideal S64x16x60 .f32) (k : ℕ) (o : Fin 16) (i : Fin 60) : slabWq x k (ix3 (0 : Fin 1) o i) = x (ix3 (fk k) o i) := by
  refine congrArg x (funext fun q => Fin.ext ?_)
  match q with
  | ⟨0, _⟩ => show k % 64 + 1 * 0 = k % 64; omega
  | ⟨1, _⟩ => show 0 + 1 * o.val = o.val; omega
  | ⟨2, _⟩ => show 0 + 1 * i.val = i.val; omega

theorem slabC_apply (x : Vec Ideal S64x128x60 .f32) (k : ℕ) (r : Fin 128) (i : Fin 60) : slabC x k (ix3 (0 : Fin 1) r i) = x (ix3 (fk k) r i) := by
  refine congrArg x (funext fun q => Fin.ext ?_)
  match q with
  | ⟨0, _⟩ => show k % 64 + 1 * 0 = k % 64; omega
  | ⟨1, _⟩ => show 0 + 1 * r.val = r.val; omega
  | ⟨2, _⟩ => show 0 + 1 * i.val = i.val; omega

theorem slabBp_apply (x : Vec Ideal S64x16 .f32) (k : ℕ) (o : Fin 16) : slabBp x k (ix2 (0 : Fin 1) o) = x (ix2 (fk k) o) := by
  refine congrArg x (funext fun q => Fin.ext ?_)
  match q with
  | ⟨0, _⟩ => show k % 64 + 1 * 0 = k % 64; omega
  | ⟨1, _⟩ => show 0 + 1 * o.val = o.val; omega

theorem slabBq_apply (x : Vec Ideal S64x60 .f32) (k : ℕ) (i : Fin 60) : slabBq x k (ix2 (0 : Fin 1) i) = x (ix2 (fk k) i) := by
  refine congrArg x (funext fun q => Fin.ext ?_)
  match q with
  | ⟨0, _⟩ => show k % 64 + 1 * 0 = k % 64; omega
  | ⟨1, _⟩ => show 0 + 1 * i.val = i.val; omega

variable {X : Fin 8 → Fin 1024 → Fin 1025 → Fin 2 → ℝ} {WP : Fin 64 → Fin 60 → Fin 16 → ℝ} {BP : Fin 64 → Fin 16 → ℝ}
  {WQ : Fin 64 → Fin 16 → Fin 60 → ℝ} {BQ : Fin 64 → Fin 60 → ℝ} {MK : Fin 1920 → ℝ} {RL : Fin 1025 → ℝ} {G : Fin 1920 → Fin 1025}

theorem matOf_real {x1 : Vec Ideal S64x60x16 .f32} {x2 : Vec Ideal S64x16x60 .f32} {x5 x6 : Vec Ideal S64x128x60 .f32}
    (h1 : ∀ k j o, x1 (ix3 k j o) = ((WP k j o : ℝ) : EReal)) (h2 : ∀ k o i, x2 (ix3 k o i) = ((WQ k o i : ℝ) : EReal))
    (h5 : ∀ k r i, x5 (ix3 k r i) = ((coefR (sR MK RL k) (off k.val) r i : ℝ) : EReal))
    (h6 : ∀ k r i, x6 (ix3 k r i) = ((coefR (mR MK k) (off k.val) r i : ℝ) : EReal)) (n : Fin 32) (r r' : Fin 128) :
    matOf x1 x2 x5 x6 (ix3 n r r') = ((pairA WP WQ MK RL n.val r r' : ℝ) : EReal) := by
  have hband : ∀ k : ℕ, bandMat (slabC x5 k) (slabWq x2 k) (slabWp x1 k) (slabC x6 k) (ix2 r r')
      = ((matR (coefR (sR MK RL (fk k)) (off (fk k).val)) (WQ (fk k)) (WP (fk k)) (coefR (mR MK (fk k)) (off (fk k).val)) r r' : ℝ) : EReal) := fun k =>
    bandMat_real _ _ _ _ _ _ _ _ (fun r i => by rw [slabC_apply, h5]) (fun o i => by rw [slabWq_apply, h2]) (fun j o => by rw [slabWp_apply, h1])
      (fun r i => by rw [slabC_apply, h6]) r r'
  show pairMat (slabC x5) (slabWq x2) (slabWp x1) (slabC x6) n.val (ix2 r r') = _
  unfold pairMat
  rw [addf_apply, hband, hband, ← EReal.coe_add]
  rfl

theorem biasOf_real {x2 : Vec Ideal S64x16x60 .f32} {x3 : Vec Ideal S64x16 .f32} {x4 : Vec Ideal S64x60 .f32} {x5 : Vec Ideal S64x128x60 .f32}
    (h2 : ∀ k o i, x2 (ix3 k o i) = ((WQ k o i : ℝ) : EReal)) (h3 : ∀ k o, x3 (ix2 k o) = ((BP k o : ℝ) : EReal))
    (h4 : ∀ k i, x4 (ix2 k i) = ((BQ k i : ℝ) : EReal)) (h5 : ∀ k r i, x5 (ix3 k r i) = ((coefR (sR MK RL k) (off k.val) r i : ℝ) : EReal))
    (n : Fin 32) (r : Fin 128) : biasOf x2 x3 x4 x5 (ix2 r n) = ((pairB BP WQ BQ MK RL n.val r : ℝ) : EReal) := by
  have hband : ∀ k : ℕ, bandBias (slabC x5 k) (slabWq x2 k) (slabBp x3 k) (slabBq x4 k) (ix2 r (0 : Fin 1))
      = ((biasR (coefR (sR MK RL (fk k)) (off (fk k).val)) (WQ (fk k)) (BP (fk k)) (BQ (fk k)) r : ℝ) : EReal) := fun k =>
    bandBias_real _ _ _ _ _ _ _ _ (fun r i => by rw [slabC_apply, h5]) (fun o i => by rw [slabWq_apply, h2]) (fun o => by rw [slabBp_apply, h3])
      (fun i => by rw [slabBq_apply, h4]) r
  show pairBias (slabC x5) (slabWq x2) (slabBp x3) (slabBq x4) n.val (ix2 r (0 : Fin 1)) = _
  unfold pairBias
  rw [addf_apply, hband, hband, ← EReal.coe_add]
  rfl

theorem kernel_apply (m : (ℓ : Loc nD τ sig) → Buf (Elt Ideal) ℓ) (c : Dev nD)
    (h : Good (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) X WP BP WQ BQ MK RL)
    (b : Fin 8) (f : Fin 1025) (ch : Fin 2) (t : Fin 1024) :
    outArr m c (ix4 b f ch t) = ((∑ k : Fin 64, bandR WP BP WQ BQ MK RL (X b t) k f ch : ℝ) : EReal) := by
  have h5 := out_table (m ((c.tc : Thread nD τ).loc main_arg5)) (m ((c.tc : Thread nD τ).loc main_arg6)) (m ((c.tc : Thread nD τ).loc main_arg7)) MK RL h.mask h.rl h.at_band
  have h6 := in_table (m ((c.tc : Thread nD τ).loc main_arg5)) MK h.mask
  rw [outArr_apply, accOut_real WP BP WQ BQ MK RL _ _ _ (X b) (fun f ch t => (swap_apply m c b f ch t).trans (h.x b f t ch))
    (matOf_real (x1 := V m c main_arg1) (x2 := V m c main_arg3) (x5 := V m c main_v17) (x6 := V m c main_v19)
      (fun k j o => by rw [V_main_arg1]; exact h.wp k j o) (fun k o i => by rw [V_main_arg3]; exact h.wq k o i)
      (fun k r i => by rw [out_term]; exact h5 k r i) (fun k r i => by rw [in_term]; exact h6 k r i))
    (biasOf_real (x2 := V m c main_arg3) (x3 := V m c main_arg2) (x4 := V m c main_arg4) (x5 := V m c main_v17)
      (fun k o i => by rw [V_main_arg3]; exact h.wq k o i) (fun k o => by rw [V_main_arg2]; exact h.bp k o)
      (fun k i => by rw [V_main_arg4]; exact h.bq k i) (fun k r i => by rw [out_term]; exact h5 k r i)) f ch t 32 (le_refl _),
    sum_bands (fun k => bandR WP BP WQ BQ MK RL (X b t) k f ch)]

end Cert.KernelIdeal.Fold

end
-- ==== Proof.Ref.lean ====
module

public import proofs.«01_k».proof.Proof.Bands
public import proofs.«01_k».proof.Proof.Take
public import proofs.«01_k».proof.Proof.Gen.ReferenceIdeal.Run

/-! # The reference at an index

Its stages one by one, with the floats real and the index a frequency where it is used: the values taken, the two layers of each band, the
values added back, and the division by the overlap. -/

@[expose] public section

noncomputable section

namespace Cert.Ref

open Cert.ReferenceIdeal Cert.ReferenceIdeal.Gen Idealize.ShloMosaic Idealize.ShloMosaic.TcCoe Idealize.SL.Sem
open Idealize.ShloMosaic.ValueIdx
open Cert.Take Cert.KernelIdeal.Fold

/-- The wrapped indices, as a column. -/
def cols (a7 : IVec S1920 32) : IVec S1920x1 32 :=
  broadcastInDim S1920x1 ![0] bcast_S1920_S1920x1_0 (select (cmpi .slt a7 (broadcastInDim S1920 ![] bcast_S_S1920 (constantI S_ 32 0#32)))
    (addi a7 (broadcastInDim S1920 ![] bcast_S_S1920 (constantI S_ 32 1025#32))) a7)

/-- The values taken, the masked ones zero. -/
def taken (a0 : FVec Ideal S8x1025x1024x2 .f32) (a5 : FVec Ideal S1920 .f32) (a7 : IVec S1920 32) : FVec Ideal S8x1024x2x1920 .f32 :=
  mulf (select (broadcastInDim S8x1024x2x1920 ![3] bcast_S1920_S8x1024x2x1920_3 (Host.reduce IntOp.andi (andi
      (cmpi .sge (cols a7) (broadcastInDim S1920x1 ![] bcast_S_S1920x1 (constantI S_ 32 0#32)))
      (cmpi .sle (cols a7) (broadcastInDim S1920x1 ![0, 1] bcast_S1x1_S1920x1_0_1 (broadcastInDim S1x1 ![1] bcast_S1_S1x1_1 (constantI S1 32 1024#32)))))
      (constantI S_ 1 1#1) reducesTo_S1920x1_S1920_d1 h_S_))
    (Host.gather gather_S8x1024x2x1025_S1920x1_S8x1024x2x1920_012_3_n_n_3_1_8102421
      (transpose S8x1024x2x1025 [0, 2, 3, 1] a0 transposes_S8x1025x1024x2_S8x1024x2x1025_0_2_3_1) (cols a7))
    (broadcastInDim S8x1024x2x1920 ![] bcast_S_S8x1024x2x1920 (constant S_ .f32 0x7FC00000#32)))
  (broadcastInDim S8x1024x2x1920 ![0, 1, 2, 3] bcast_S1x1x1x1920_S8x1024x2x1920_0_1_2_3 (broadcastInDim S1x1x1x1920 ![3] bcast_S1920_S1x1x1x1920_3 a5))

/-- The bands' rows. -/
def rows (v : FVec Ideal S8x1024x2x1920 .f32) : FVec Ideal S8x1024x64x60 .f32 :=
  shapeCast S8x1024x64x60 (transpose S8x1024x64x30x2 [0, 1, 3, 4, 2] (shapeCast S8x1024x2x64x30 v shapeCasts_S8x1024x2x1920_S8x1024x2x64x30)
    transposes_S8x1024x2x64x30_S8x1024x64x30x2_0_1_3_4_2) shapeCasts_S8x1024x64x30x2_S8x1024x64x60

/-- The first layer. -/
def layer1 (a1 : FVec Ideal S64x60x16 .f32) (a2 : FVec Ideal S64x16 .f32) (v : FVec Ideal S8x1024x64x60 .f32) : FVec Ideal S8x1024x64x16 .f32 :=
  addf (transpose S8x1024x64x16 [2, 3, 0, 1] (Host.dotGeneral dot_S64x60x16_S8x1024x64x60_S64x16x8x1024_1_3_2_01_0_2 none a1 v)
      transposes_S64x16x8x1024_S8x1024x64x16_2_3_0_1)
    (broadcastInDim S8x1024x64x16 ![0, 1, 2, 3] bcast_S1x1x64x16_S8x1024x64x16_0_1_2_3 (broadcastInDim S1x1x64x16 ![2, 3] bcast_S64x16_S1x1x64x16_2_3 a2))

/-- The second layer. -/
def layer2 (a3 : FVec Ideal S64x16x60 .f32) (a4 : FVec Ideal S64x60 .f32) (v : FVec Ideal S8x1024x64x16 .f32) : FVec Ideal S8x1024x64x60 .f32 :=
  addf (transpose S8x1024x64x60 [2, 3, 0, 1] (Host.dotGeneral dot_S64x16x60_S8x1024x64x16_S64x60x8x1024_1_3_2_01_0_2 none a3 v)
      transposes_S64x60x8x1024_S8x1024x64x60_2_3_0_1)
    (broadcastInDim S8x1024x64x60 ![0, 1, 2, 3] bcast_S1x1x64x60_S8x1024x64x60_0_1_2_3 (broadcastInDim S1x1x64x60 ![2, 3] bcast_S64x60_S1x1x64x60_2_3 a4))

/-- The bands' rows laid flat, the masked ones zero. -/
def flat (a5 : FVec Ideal S1920 .f32) (v : FVec Ideal S8x1024x64x60 .f32) : FVec Ideal S8x1024x2x1920 .f32 :=
  mulf (shapeCast S8x1024x2x1920 (transpose S8x1024x2x64x30 [0, 1, 4, 2, 3] (shapeCast S8x1024x64x30x2 v shapeCasts_S8x1024x64x60_S8x1024x64x30x2)
      transposes_S8x1024x64x30x2_S8x1024x2x64x30_0_1_4_2_3) shapeCasts_S8x1024x2x64x30_S8x1024x2x1920)
    (broadcastInDim S8x1024x2x1920 ![0, 1, 2, 3] bcast_S1x1x1x1920_S8x1024x2x1920_0_1_2_3 (broadcastInDim S1x1x1x1920 ![3] bcast_S1920_S1x1x1x1920_3 a5))

/-- The values added back and divided. -/
def added (a6 : FVec Ideal S1025 .f32) (a7 : IVec S1920 32) (v : FVec Ideal S8x1024x2x1920 .f32) : FVec Ideal S8x1025x1024x2 .f32 :=
  transpose S8x1025x1024x2 [0, 3, 1, 2] (Host.divf (Host.scatterAdd scatter_S8x1024x2x1025_S1920x1_S8x1024x2x1920_012_3_3_1
      (broadcastInDim S8x1024x2x1025 ![] bcast_S_S8x1024x2x1025 (constant S_ .f32 0x00000000#32)) (cols a7) v)
    (broadcastInDim S8x1024x2x1025 ![0, 1, 2, 3] bcast_S1x1x1x1025_S8x1024x2x1025_0_1_2_3 (broadcastInDim S1x1x1x1025 ![3] bcast_S1025_S1x1x1x1025_3 a6)))
    transposes_S8x1024x2x1025_S8x1025x1024x2_0_3_1_2

/-- The reference's result is these stages in turn. -/
theorem res_stages (m : (ℓ : Loc nD τ sig) → Buf (Elt Ideal) ℓ) (c : Dev nD) :
    Value.res_main_v35 m c = added (m ((c.tc : Thread nD τ).loc main_arg6)) (m ((c.tc : Thread nD τ).loc main_arg7))
      (flat (m ((c.tc : Thread nD τ).loc main_arg5)) (layer2 (m ((c.tc : Thread nD τ).loc main_arg3)) (m ((c.tc : Thread nD τ).loc main_arg4))
        (layer1 (m ((c.tc : Thread nD τ).loc main_arg1)) (m ((c.tc : Thread nD τ).loc main_arg2))
          (rows (taken (m ((c.tc : Thread nD τ).loc main_arg0)) (m ((c.tc : Thread nD τ).loc main_arg5)) (m ((c.tc : Thread nD τ).loc main_arg7))))))) := rfl

variable {p : Fin 1920} {f : Fin 1025}

theorem cols_reads {a7 : IVec S1920 32} (h : Reads a7 p f) : Reads2 (cols a7) p f := wrap_reads h _ _ _

/-- The list along the last axis, spread over the others. -/
theorem spread_last (a5 : FVec Ideal S1920 .f32) (b : Fin 8) (t : Fin 1024) (ch : Fin 2) (p : Fin 1920) :
    broadcastInDim S8x1024x2x1920 ![0, 1, 2, 3] bcast_S1x1x1x1920_S8x1024x2x1920_0_1_2_3 (broadcastInDim S1x1x1x1920 ![3] bcast_S1920_S1x1x1x1920_3 a5)
      (ix4 b t ch p) = a5 (ix1 p) := by
  rw [broadcastInDim_apply ![0, 1, 2, 3] _ _ (ix4 b t ch p) (ix4 (0 : Fin 1) (0 : Fin 1) (0 : Fin 1) p) (by
    intro q
    match q with
    | ⟨0, _⟩ => rfl
    | ⟨1, _⟩ => rfl
    | ⟨2, _⟩ => rfl
    | ⟨3, _⟩ => rfl)]
  exact broadcastInDim_apply ![3] bcast_S1920_S1x1x1x1920_3 a5 (ix4 (0 : Fin 1) (0 : Fin 1) (0 : Fin 1) p) (ix1 p) (by
    intro q
    obtain rfl : q = 0 := Subsingleton.elim _ _
    rfl)

theorem taken_apply (a0 : FVec Ideal S8x1025x1024x2 .f32) (a5 : FVec Ideal S1920 .f32) {a7 : IVec S1920 32} (h : Reads a7 p f)
    (b : Fin 8) (t : Fin 1024) (ch : Fin 2) :
    taken a0 a5 a7 (ix4 b t ch p) = a0 (ix4 b f t ch) * a5 (ix1 p) := by
  unfold taken
  rw [mulf_apply, spread_last, select_apply,
    broadcastInDim_apply ![3] bcast_S1920_S8x1024x2x1920_3 _ (ix4 b t ch p) (ix1 p) (by
      intro q
      obtain rfl : q = 0 := Subsingleton.elim _ _
      rfl),
    range_holds (cols_reads h), select_one, gather_last _ (cols_reads h),
    transpose_apply _ _ _ (ix4 b t ch f) (ix4 b f t ch) (by
      intro q
      match q with
      | ⟨0, _⟩ => rfl
      | ⟨1, _⟩ => rfl
      | ⟨2, _⟩ => rfl
      | ⟨3, _⟩ => rfl)]

/-- Where the mask is zero nothing is taken, whatever the index. -/
theorem taken_zero (a0 : FVec Ideal S8x1025x1024x2 .f32) {a5 : FVec Ideal S1920 .f32} (a7 : IVec S1920 32) (h : a5 (ix1 p) = (0 : EReal))
    (b : Fin 8) (t : Fin 1024) (ch : Fin 2) : taken a0 a5 a7 (ix4 b t ch p) = (0 : EReal) := by
  unfold taken
  rw [mulf_apply, spread_last, h]
  exact mul_zero _

theorem rows_apply (v : FVec Ideal S8x1024x2x1920 .f32) (b : Fin 8) (t : Fin 1024) (k : Fin 64) (j : Fin 60) :
    rows v (ix4 b t k j) = v (ix4 b t (par j) (place k (half j))) := by
  unfold rows
  rw [shapeCast_apply _ shapeCasts_S8x1024x64x30x2_S8x1024x64x60 (ix4 b t k j) (ix5 b t k (half j) (par j)) (by
      rw [Shape.rowMajor_val_five, Shape.rowMajor_val_four]
      show (((b.val * 1024 + t.val) * 64 + k.val) * 30 + j.val / 2) * 2 + j.val % 2 = ((b.val * 1024 + t.val) * 64 + k.val) * 60 + j.val
      omega),
    transpose_apply _ _ _ (ix5 b t k (half j) (par j)) (ix5 b t (par j) k (half j)) (by
      intro q
      match q with
      | ⟨0, _⟩ => rfl
      | ⟨1, _⟩ => rfl
      | ⟨2, _⟩ => rfl
      | ⟨3, _⟩ => rfl
      | ⟨4, _⟩ => rfl),
    shapeCast_apply _ shapeCasts_S8x1024x2x1920_S8x1024x2x64x30 (ix5 b t (par j) k (half j)) (ix4 b t (par j) (place k (half j))) (by
      rw [Shape.rowMajor_val_five, Shape.rowMajor_val_four]
      show ((b.val * 1024 + t.val) * 2 + j.val % 2) * 1920 + (30 * k.val + j.val / 2)
        = (((b.val * 1024 + t.val) * 2 + j.val % 2) * 64 + k.val) * 30 + j.val / 2
      omega)]

theorem flat_apply (a5 : FVec Ideal S1920 .f32) (v : FVec Ideal S8x1024x64x60 .f32) (b : Fin 8) (t : Fin 1024) (ch : Fin 2) (k : Fin 64) (w : Fin 30) :
    flat a5 v (ix4 b t ch (place k w)) = v (ix4 b t k (row w ch)) * a5 (ix1 (place k w)) := by
  unfold flat
  rw [mulf_apply, spread_last,
    shapeCast_apply _ shapeCasts_S8x1024x2x64x30_S8x1024x2x1920 (ix4 b t ch (place k w)) (ix5 b t ch k w) (by
      rw [Shape.rowMajor_val_five, Shape.rowMajor_val_four]
      show (((b.val * 1024 + t.val) * 2 + ch.val) * 64 + k.val) * 30 + w.val = ((b.val * 1024 + t.val) * 2 + ch.val) * 1920 + (30 * k.val + w.val)
      omega),
    transpose_apply _ _ _ (ix5 b t ch k w) (ix5 b t k w ch) (by
      intro q
      match q with
      | ⟨0, _⟩ => rfl
      | ⟨1, _⟩ => rfl
      | ⟨2, _⟩ => rfl
      | ⟨3, _⟩ => rfl
      | ⟨4, _⟩ => rfl),
    shapeCast_apply _ shapeCasts_S8x1024x64x60_S8x1024x64x30x2 (ix5 b t k w ch) (ix4 b t k (row w ch)) (by
      rw [Shape.rowMajor_val_five, Shape.rowMajor_val_four]
      show ((b.val * 1024 + t.val) * 64 + k.val) * 60 + (2 * w.val + ch.val) = (((b.val * 1024 + t.val) * 64 + k.val) * 30 + w.val) * 2 + ch.val
      omega)]

/-- A batched product of reals, transposed: the first layer's. -/
theorem dot1_real (a1 : FVec Ideal S64x60x16 .f32) (v : FVec Ideal S8x1024x64x60 .f32) (L : Fin 64 → Fin 60 → Fin 16 → ℝ)
    (R : Fin 8 → Fin 1024 → Fin 64 → Fin 60 → ℝ) (hL : ∀ k j o, a1 (ix3 k j o) = ((L k j o : ℝ) : EReal))
    (hR : ∀ b t k j, v (ix4 b t k j) = ((R b t k j : ℝ) : EReal)) (k : Fin 64) (o : Fin 16) (b : Fin 8) (t : Fin 1024) :
    Host.dotGeneral dot_S64x60x16_S8x1024x64x60_S64x16x8x1024_1_3_2_01_0_2 none a1 v (ix4 k o b t)
      = ((∑ j : Fin 60, R b t k j * L k j o : ℝ) : EReal) := by
  show FloatOps.dotGeneral _ none _ a1 v (ix4 k o b t) = _
  rw [Ideal.dotGeneral_apply, ← Equiv.sum_comp (contrEquiv1 dot_S64x60x16_S8x1024x64x60_S64x16x8x1024_1_3_2_01_0_2 60 rfl rfl).symm, ← coe_sum]
  refine Finset.sum_congr rfl fun j _ => ?_
  have hk := contrEquiv1_symm_val dot_S64x60x16_S8x1024x64x60_S64x16x8x1024_1_3_2_01_0_2 60 rfl rfl j
  have el : dot_S64x60x16_S8x1024x64x60_S64x16x8x1024_1_3_2_01_0_2.lhsIdx (ix4 k o b t)
      ((contrEquiv1 dot_S64x60x16_S8x1024x64x60_S64x16x8x1024_1_3_2_01_0_2 60 rfl rfl).symm j) = ix3 k j o := by
    funext a; apply Fin.ext
    match a with
    | ⟨0, _⟩ => rfl
    | ⟨1, _⟩ => exact hk
    | ⟨2, _⟩ => rfl
  have er : dot_S64x60x16_S8x1024x64x60_S64x16x8x1024_1_3_2_01_0_2.rhsIdx (ix4 k o b t)
      ((contrEquiv1 dot_S64x60x16_S8x1024x64x60_S64x16x8x1024_1_3_2_01_0_2 60 rfl rfl).symm j) = ix4 b t k j := by
    funext a; apply Fin.ext
    match a with
    | ⟨0, _⟩ => rfl
    | ⟨1, _⟩ => rfl
    | ⟨2, _⟩ => rfl
    | ⟨3, _⟩ => exact hk
  rw [el, er, hL, hR, ← EReal.coe_mul, mul_comm]

/-- A batched product of reals, transposed: the second layer's. -/
theorem dot2_real (a3 : FVec Ideal S64x16x60 .f32) (v : FVec Ideal S8x1024x64x16 .f32) (L : Fin 64 → Fin 16 → Fin 60 → ℝ)
    (R : Fin 8 → Fin 1024 → Fin 64 → Fin 16 → ℝ) (hL : ∀ k o i, a3 (ix3 k o i) = ((L k o i : ℝ) : EReal))
    (hR : ∀ b t k o, v (ix4 b t k o) = ((R b t k o : ℝ) : EReal)) (k : Fin 64) (i : Fin 60) (b : Fin 8) (t : Fin 1024) :
    Host.dotGeneral dot_S64x16x60_S8x1024x64x16_S64x60x8x1024_1_3_2_01_0_2 none a3 v (ix4 k i b t)
      = ((∑ o : Fin 16, R b t k o * L k o i : ℝ) : EReal) := by
  show FloatOps.dotGeneral _ none _ a3 v (ix4 k i b t) = _
  rw [Ideal.dotGeneral_apply, ← Equiv.sum_comp (contrEquiv1 dot_S64x16x60_S8x1024x64x16_S64x60x8x1024_1_3_2_01_0_2 16 rfl rfl).symm, ← coe_sum]
  refine Finset.sum_congr rfl fun o _ => ?_
  have hk := contrEquiv1_symm_val dot_S64x16x60_S8x1024x64x16_S64x60x8x1024_1_3_2_01_0_2 16 rfl rfl o
  have el : dot_S64x16x60_S8x1024x64x16_S64x60x8x1024_1_3_2_01_0_2.lhsIdx (ix4 k i b t)
      ((contrEquiv1 dot_S64x16x60_S8x1024x64x16_S64x60x8x1024_1_3_2_01_0_2 16 rfl rfl).symm o) = ix3 k o i := by
    funext a; apply Fin.ext
    match a with
    | ⟨0, _⟩ => rfl
    | ⟨1, _⟩ => exact hk
    | ⟨2, _⟩ => rfl
  have er : dot_S64x16x60_S8x1024x64x16_S64x60x8x1024_1_3_2_01_0_2.rhsIdx (ix4 k i b t)
      ((contrEquiv1 dot_S64x16x60_S8x1024x64x16_S64x60x8x1024_1_3_2_01_0_2 16 rfl rfl).symm o) = ix4 b t k o := by
    funext a; apply Fin.ext
    match a with
    | ⟨0, _⟩ => rfl
    | ⟨1, _⟩ => rfl
    | ⟨2, _⟩ => rfl
    | ⟨3, _⟩ => exact hk
  rw [el, er, hL, hR, ← EReal.coe_mul, mul_comm]

theorem layer1_real (a1 : FVec Ideal S64x60x16 .f32) (a2 : FVec Ideal S64x16 .f32) (v : FVec Ideal S8x1024x64x60 .f32)
    (L : Fin 64 → Fin 60 → Fin 16 → ℝ) (B : Fin 64 → Fin 16 → ℝ) (R : Fin 8 → Fin 1024 → Fin 64 → Fin 60 → ℝ)
    (hL : ∀ k j o, a1 (ix3 k j o) = ((L k j o : ℝ) : EReal)) (hB : ∀ k o, a2 (ix2 k o) = ((B k o : ℝ) : EReal))
    (hR : ∀ b t k j, v (ix4 b t k j) = ((R b t k j : ℝ) : EReal)) (b : Fin 8) (t : Fin 1024) (k : Fin 64) (o : Fin 16) :
    layer1 a1 a2 v (ix4 b t k o) = (((∑ j : Fin 60, R b t k j * L k j o) + B k o : ℝ) : EReal) := by
  unfold layer1
  rw [addf_apply, transpose_apply _ _ _ (ix4 b t k o) (ix4 k o b t) (by
      intro q
      match q with
      | ⟨0, _⟩ => rfl
      | ⟨1, _⟩ => rfl
      | ⟨2, _⟩ => rfl
      | ⟨3, _⟩ => rfl),
    dot1_real a1 v L R hL hR, broadcastInDim_apply ![0, 1, 2, 3] _ _ (ix4 b t k o) (ix4 (0 : Fin 1) (0 : Fin 1) k o) (by
      intro q
      match q with
      | ⟨0, _⟩ => rfl
      | ⟨1, _⟩ => rfl
      | ⟨2, _⟩ => rfl
      | ⟨3, _⟩ => rfl),
    broadcastInDim_apply ![2, 3] _ _ (ix4 (0 : Fin 1) (0 : Fin 1) k o) (ix2 k o) (by
      intro q
      match q with
      | ⟨0, _⟩ => rfl
      | ⟨1, _⟩ => rfl), hB, EReal.coe_add]

theorem layer2_real (a3 : FVec Ideal S64x16x60 .f32) (a4 : FVec Ideal S64x60 .f32) (v : FVec Ideal S8x1024x64x16 .f32)
    (L : Fin 64 → Fin 16 → Fin 60 → ℝ) (B : Fin 64 → Fin 60 → ℝ) (R : Fin 8 → Fin 1024 → Fin 64 → Fin 16 → ℝ)
    (hL : ∀ k o i, a3 (ix3 k o i) = ((L k o i : ℝ) : EReal)) (hB : ∀ k i, a4 (ix2 k i) = ((B k i : ℝ) : EReal))
    (hR : ∀ b t k o, v (ix4 b t k o) = ((R b t k o : ℝ) : EReal)) (b : Fin 8) (t : Fin 1024) (k : Fin 64) (i : Fin 60) :
    layer2 a3 a4 v (ix4 b t k i) = (((∑ o : Fin 16, R b t k o * L k o i) + B k i : ℝ) : EReal) := by
  unfold layer2
  rw [addf_apply, transpose_apply _ _ _ (ix4 b t k i) (ix4 k i b t) (by
      intro q
      match q with
      | ⟨0, _⟩ => rfl
      | ⟨1, _⟩ => rfl
      | ⟨2, _⟩ => rfl
      | ⟨3, _⟩ => rfl),
    dot2_real a3 v L R hL hR, broadcastInDim_apply ![0, 1, 2, 3] _ _ (ix4 b t k i) (ix4 (0 : Fin 1) (0 : Fin 1) k i) (by
      intro q
      match q with
      | ⟨0, _⟩ => rfl
      | ⟨1, _⟩ => rfl
      | ⟨2, _⟩ => rfl
      | ⟨3, _⟩ => rfl),
    broadcastInDim_apply ![2, 3] _ _ (ix4 (0 : Fin 1) (0 : Fin 1) k i) (ix2 k i) (by
      intro q
      match q with
      | ⟨0, _⟩ => rfl
      | ⟨1, _⟩ => rfl), hB, EReal.coe_add]

open Classical in
theorem added_apply (a6 : FVec Ideal S1025 .f32) (a7 : IVec S1920 32) (v : FVec Ideal S8x1024x2x1920 .f32)
    (b : Fin 8) (f : Fin 1025) (t : Fin 1024) (ch : Fin 2) :
    added a6 a7 v (ix4 b f t ch) = Ideal.div (∑ p : Fin 1920, if Reads2 (cols a7) p f then v (ix4 b t ch p) else 0) (a6 (ix1 f)) := by
  unfold added
  rw [transpose_apply _ _ _ (ix4 b f t ch) (ix4 b t ch f) (by
      intro q
      match q with
      | ⟨0, _⟩ => rfl
      | ⟨1, _⟩ => rfl
      | ⟨2, _⟩ => rfl
      | ⟨3, _⟩ => rfl), hostDivf_apply,
    broadcastInDim_apply ![0, 1, 2, 3] bcast_S1x1x1x1025_S8x1024x2x1025_0_1_2_3 _ (ix4 b t ch f) (ix4 (0 : Fin 1) (0 : Fin 1) (0 : Fin 1) f) (by
      intro q
      match q with
      | ⟨0, _⟩ => rfl
      | ⟨1, _⟩ => rfl
      | ⟨2, _⟩ => rfl
      | ⟨3, _⟩ => rfl),
    broadcastInDim_apply ![3] bcast_S1025_S1x1x1x1025_3 _ (ix4 (0 : Fin 1) (0 : Fin 1) (0 : Fin 1) f) (ix1 f) (by
      intro q
      obtain rfl : q = 0 := Subsingleton.elim _ _
      rfl)]
  refine congrArg (fun z => Ideal.div z (a6 (ix1 f))) ?_
  show Ideal.hostScatterAdd scatter_S8x1024x2x1025_S1920x1_S8x1024x2x1920_012_3_3_1 _ (cols a7) v (ix4 b t ch f) = _
  rw [scatter_sum]
  refine (congrArg (· + _) (?_ : _ = (0 : EReal))).trans (zero_add _)
  rw [broadcastInDim_scalar_apply]
  exact Ideal.ofBits_zero_f32

end Cert.Ref

end
-- ==== Proof.Equation.lean ====
module

public import proofs.«01_k».proof.Proof.Kernel
public import proofs.«01_k».proof.Proof.Ref

/-! # The reference's entry is the bands' sum

The flat sum over the 1920 places is the sum over the bands and their places. Where the mask is zero a place adds nothing, and
elsewhere its index is its band's frequency. -/

@[expose] public section

noncomputable section

namespace Cert.Ref

open Cert.ReferenceIdeal Cert.ReferenceIdeal.Gen Idealize.ShloMosaic Idealize.ShloMosaic.TcCoe Idealize.SL.Sem
open Idealize.ShloMosaic.ValueIdx
open Cert.Take Cert.KernelIdeal.Fold

variable {X : Fin 8 → Fin 1024 → Fin 1025 → Fin 2 → ℝ} {WP : Fin 64 → Fin 60 → Fin 16 → ℝ} {BP : Fin 64 → Fin 16 → ℝ}
  {WQ : Fin 64 → Fin 16 → Fin 60 → ℝ} {BQ : Fin 64 → Fin 60 → ℝ} {MK : Fin 1920 → ℝ} {RL : Fin 1025 → ℝ}

/-- Bands and places are the 1920 places. -/
def places : Fin 64 × Fin 30 ≃ Fin 1920 where
  toFun q := place q.1 q.2
  invFun p := (⟨p.val / 30, by omega⟩, ⟨p.val % 30, by omega⟩)
  left_inv q := by
    obtain ⟨k, w⟩ := q
    refine Prod.ext (Fin.ext ?_) (Fin.ext ?_)
    · show (30 * k.val + w.val) / 30 = k.val
      omega
    · show (30 * k.val + w.val) % 30 = w.val
      omega
  right_inv p := Fin.ext (by show 30 * (p.val / 30) + p.val % 30 = p.val; omega)

theorem sum_places {M : Type} [AddCommMonoid M] (g : Fin 1920 → M) : ∑ p, g p = ∑ k : Fin 64, ∑ w : Fin 30, g (place k w) := by
  rw [← Equiv.sum_comp places g, Fintype.sum_prod_type]
  rfl

variable {a0 : FVec Ideal S8x1025x1024x2 .f32} {a1 : FVec Ideal S64x60x16 .f32} {a2 : FVec Ideal S64x16 .f32}
  {a3 : FVec Ideal S64x16x60 .f32} {a4 : FVec Ideal S64x60 .f32} {a5 : FVec Ideal S1920 .f32} {a6 : FVec Ideal S1025 .f32}
  {a7 : IVec S1920 32}

/-- A row of a band, taken and masked. -/
theorem rows_real (h : Good a0 a1 a2 a3 a4 a5 a6 a7 X WP BP WQ BQ MK RL) (b : Fin 8) (t : Fin 1024) (k : Fin 64) (j : Fin 60) :
    rows (taken a0 a5 a7) (ix4 b t k j) = ((X b t (freq k (half j)) (par j) * MK (place k (half j)) : ℝ) : EReal) := by
  rw [rows_apply]
  rcases h.at_band k (half j) with e | e
  · rw [taken_zero a0 a7 (by rw [h.mask, e]; rfl), e, mul_zero]
    rfl
  · rw [taken_apply a0 a5 e, h.x, h.mask, ← EReal.coe_mul]

/-- What the two layers give. -/
theorem layers_real (h : Good a0 a1 a2 a3 a4 a5 a6 a7 X WP BP WQ BQ MK RL) (b : Fin 8) (t : Fin 1024) (k : Fin 64) (i : Fin 60) :
    layer2 a3 a4 (layer1 a1 a2 (rows (taken a0 a5 a7))) (ix4 b t k i) = ((yR WP BP WQ BQ MK (X b t) k i : ℝ) : EReal) :=
  layer2_real a3 a4 _ WQ BQ _ h.wq h.bq (layer1_real a1 a2 _ WP BP _ h.wp h.bp (rows_real h)) b t k i

open Classical in
theorem reference_apply (h : Good a0 a1 a2 a3 a4 a5 a6 a7 X WP BP WQ BQ MK RL) (b : Fin 8) (f : Fin 1025) (t : Fin 1024) (ch : Fin 2) :
    added a6 a7 (flat a5 (layer2 a3 a4 (layer1 a1 a2 (rows (taken a0 a5 a7))))) (ix4 b f t ch)
      = ((∑ k : Fin 64, bandR WP BP WQ BQ MK RL (X b t) k f ch : ℝ) : EReal) := by
  have hterm : ∀ (k : Fin 64) (w : Fin 30),
      (if Reads2 (cols a7) (place k w) f then flat a5 (layer2 a3 a4 (layer1 a1 a2 (rows (taken a0 a5 a7)))) (ix4 b t ch (place k w)) else 0)
        = ((if freq k w = f then yR WP BP WQ BQ MK (X b t) k (row w ch) * MK (place k w) else 0 : ℝ) : EReal) := by
    intro k w
    rw [flat_apply, layers_real h, h.mask, ← EReal.coe_mul]
    rcases h.at_band k w with e | e
    · rw [e, mul_zero, ite_self, EReal.coe_zero, ite_self]
    · have hr : Reads2 (cols a7) (place k w) f ↔ freq k w = f := by
        have q : _ = _ := cols_reads e
        unfold Reads2
        rw [q]
        exact ⟨fun h => Fin.ext (by omega), fun h => by rw [h]⟩
      rw [if_congr hr rfl rfl]
      split_ifs
      · rfl
      · rfl
  rw [added_apply, ← Ideal.mul_one_div (h.ne f), h.rl, sum_places]
  simp only [hterm, coe_sum]
  rw [← EReal.coe_mul, Finset.sum_mul]
  refine congrArg _ (Finset.sum_congr rfl fun k _ => ?_)
  unfold bandR
  rw [Finset.sum_mul]
  refine Finset.sum_congr rfl fun w _ => ?_
  split_ifs
  · ring
  · exact zero_mul _

end Cert.Ref

end
-- ==== Proof.Run.lean ====
module

public import proofs.«01_k».proof.Proof.Kernel
public import Idealize.ShloMosaic.Lib.Claim

/-! # The kernel's run

The result is the array that the call leaves, with its last two axes swapped back; the arguments stay as they were. -/

@[expose] public section

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The kernel's result. -/
def result (c : Dev nD) : FVec Ideal S8x1025x1024x2 .f32 :=
  transpose S8x1025x1024x2 [0, 1, 3, 2] (outArr m c) transposes_S8x1025x2x1024_S8x1025x1024x2_0_1_3_2

theorem result_apply (c : Dev nD) (b : Fin 8) (f : Fin 1025) (t : Fin 1024) (ch : Fin 2) :
    result m c (ix4 b f t ch) = outArr m c (ix4 b f ch t) :=
  transpose_apply [0, 1, 3, 2] _ _ (ix4 b f t ch) (ix4 b f ch t) (by
    intro q
    match q with
    | ⟨0, _⟩ => rfl
    | ⟨1, _⟩ => rfl
    | ⟨2, _⟩ => rfl
    | ⟨3, _⟩ => rfl)

/-- The line after the call leaves `result`. -/
theorem tail_eq (c : Dev nD) : Pipeline.afterTail₀ cfgs (dats m) 0 (V0 m) [hostOps1] c main_v22 = result m c := by
  unfold Pipeline.afterTail₀
  have e := Pipeline.withArrays_arr spec0 winFacts0.arr_inj c (V0 m c) (fun w => (dats m 0 c).arrAt w cfg0.N) 7
  simp only [hostOps1, List.flatten_cons, List.flatten_nil, List.append_nil, StableHlo.TRef.unary, StableHlo.TRef.toBuf, StableHlo.TRef.ofBuf, cast_eq]
  after_results_simp
  unfold result outArr
  rw [← e]

theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).2 main_v22 (Pipeline.mem_restRefs_of main_v22 (by decide) (by decide))).trans (tail_eq m c), h.2 c⟩)
    (θ_run_and (run_main m ρ) (unchanged m ρ))

end Cert.KernelIdeal.Fold

end
-- ==== Proof.Pre.lean ====
module

public import proofs.«01_k».proof.Pre_bands
public import proofs.«01_k».proof.Proof.Kernel

/-! # What the precondition gives

The floats are real, no overlap is zero, and wherever the mask is not zero the index is its band's frequency. -/

@[expose] public section

noncomputable section

namespace Cert.Bands

open Cert.Pre_bands Idealize.ShloMosaic Idealize.ShloMosaic.ValueIdx
open Cert.Take Cert.KernelIdeal.Fold

/-- The shape facts of the precondition. -/
theorem facts : Cert.Pre_bands.Facts where
  bcast_S64_S64x1_0 := by decide
  bcast_S64x1_S64x30_0_1 := by decide
  shapeCasts_S64x30_S1920 := by decide
  bcast_S_S8x1025x1024x2 := by decide
  bcast_S_S64x60x16 := by decide
  bcast_S_S64x16 := by decide
  bcast_S_S64x16x60 := by decide
  bcast_S_S64x60 := by decide
  bcast_S_S1920 := by decide
  bcast_S_S1025 := by decide

/-- A value whose magnitude is below infinity is real. -/
theorem real_of_finite {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := (WordCmp.ofBool_decide_eq_one_iff _).mp h
  have h1 : x ≠ ⊤ := ne_of_lt (lt_of_le_of_lt (le_max_left _ _) hlt)
  have h2 : x ≠ ⊥ := fun e => by
    rw [e, EReal.neg_bot] at hlt
    exact absurd (lt_of_le_of_lt (le_max_right _ _) hlt) (lt_irrefl _)
  exact ⟨x.toReal, (EReal.coe_toReal h1 h2).symm⟩

/-- A value that is not zero has a real inverse. -/
theorem inverse_real {y : EReal} (h : y ≠ 0) : ∃ r : ℝ, Ideal.div 1 y = (r : EReal) := by
  induction y using EReal.rec with
  | bot => exact ⟨0, by unfold Ideal.div; rw [if_neg h]; simp⟩
  | top => exact ⟨0, by unfold Ideal.div; rw [if_neg h]; simp⟩
  | coe y =>
    have hy : y ≠ 0 := fun e => h (by rw [e]; rfl)
    exact ⟨1 / y, by rw [Ideal.div_coe hy, one_mul]⟩

/-- The starts, as the precondition's table has them. -/
theorem starts_word : ∀ k : Fin 64, Cert.Pre_bands.lit0 k = BitVec.ofNat 32 (start k.val) := by
  decide

theorem or_split : ∀ a b : BitVec 1, IntOp.ori a b = 1#1 → a = 1#1 ∨ b = 1#1 := by
  decide

variable [hf : Cert.Pre_bands.Facts]

/-- The table of the bands' frequencies. -/
def table : IVec S1920 32 :=
  shapeCast S1920 (addi (broadcastInDim S64x30 ![0, 1] hf.bcast_S64x1_S64x30_0_1 (broadcastInDim S64x1 ![0] hf.bcast_S64_S64x1_0
    (fun i => Cert.Pre_bands.lit0 (S64.rowMajor i)))) (iotaInDim S64x30 32 1)) hf.shapeCasts_S64x30_S1920

theorem table_apply (k : Fin 64) (w : Fin 30) : table (ix1 (place k w)) = BitVec.ofNat 32 (freq k w).val := by
  unfold table
  rw [shapeCast_apply _ hf.shapeCasts_S64x30_S1920 (ix1 (place k w)) (ix2 k w) (by
    rw [Shape.rowMajor_val_one, Shape.rowMajor_val_two]
    show k.val * 30 + w.val = 30 * k.val + w.val
    omega)]
  show IntOp.addi _ (BitVec.ofNat 32 w.val) = _
  rw [broadcastInDim_apply ![0, 1] hf.bcast_S64x1_S64x30_0_1 _ (ix2 k w) (ix2 k (0 : Fin 1)) (by
      intro q
      match q with
      | ⟨0, _⟩ => rfl
      | ⟨1, _⟩ => rfl),
    broadcastInDim_apply ![0] hf.bcast_S64_S64x1_0 _ (ix2 k (0 : Fin 1)) (ix1 k) (by
      intro q
      obtain rfl : q = 0 := Subsingleton.elim _ _
      rfl)]
  have e : S64.rowMajor (ix1 k) = k := Fin.ext (Shape.rowMajor_val_one _)
  beta_reduce
  rw [e, starts_word]
  show BitVec.ofNat 32 (start k.val) + BitVec.ofNat 32 w.val = _
  rw [← BitVec.ofNat_add]
  rfl

theorem good {a0 : FVec Ideal S8x1025x1024x2 .f32} {a1 : FVec Ideal S64x60x16 .f32} {a2 : FVec Ideal S64x16 .f32}
    {a3 : FVec Ideal S64x16x60 .f32} {a4 : FVec Ideal S64x60 .f32} {a5 : FVec Ideal S1920 .f32} {a6 : FVec Ideal S1025 .f32}
    {a7 : IVec S1920 32}
    (h0 : cmpf .olt (Host.absf a0) (broadcastInDim S8x1025x1024x2 ![] hf.bcast_S_S8x1025x1024x2 (constant S_ .f32 0x7F800000#32)) = fun _ => 1#1)
    (h1 : cmpf .olt (Host.absf a1) (broadcastInDim S64x60x16 ![] hf.bcast_S_S64x60x16 (constant S_ .f32 0x7F800000#32)) = fun _ => 1#1)
    (h2 : cmpf .olt (Host.absf a2) (broadcastInDim S64x16 ![] hf.bcast_S_S64x16 (constant S_ .f32 0x7F800000#32)) = fun _ => 1#1)
    (h3 : cmpf .olt (Host.absf a3) (broadcastInDim S64x16x60 ![] hf.bcast_S_S64x16x60 (constant S_ .f32 0x7F800000#32)) = fun _ => 1#1)
    (h4 : cmpf .olt (Host.absf a4) (broadcastInDim S64x60 ![] hf.bcast_S_S64x60 (constant S_ .f32 0x7F800000#32)) = fun _ => 1#1)
    (h5 : cmpf .olt (Host.absf a5) (broadcastInDim S1920 ![] hf.bcast_S_S1920 (constant S_ .f32 0x7F800000#32)) = fun _ => 1#1)
    (h6 : cmpf .une a6 (broadcastInDim S1025 ![] hf.bcast_S_S1025 (constant S_ .f32 0x00000000#32)) = fun _ => 1#1)
    (h7 : ori (cmpf .oeq a5 (broadcastInDim S1920 ![] hf.bcast_S_S1920 (constant S_ .f32 0x00000000#32))) (cmpi .eq a7 table) = fun _ => 1#1) :
    ∃ X WP BP WQ BQ MK RL, Good a0 a1 a2 a3 a4 a5 a6 a7 X WP BP WQ BQ MK RL := by
  have r0 : ∀ j, ∃ r : ℝ, a0 j = (r : EReal) := fun j => real_of_finite (congrFun h0 j)
  have r1 : ∀ j, ∃ r : ℝ, a1 j = (r : EReal) := fun j => real_of_finite (congrFun h1 j)
  have r2 : ∀ j, ∃ r : ℝ, a2 j = (r : EReal) := fun j => real_of_finite (congrFun h2 j)
  have r3 : ∀ j, ∃ r : ℝ, a3 j = (r : EReal) := fun j => real_of_finite (congrFun h3 j)
  have r4 : ∀ j, ∃ r : ℝ, a4 j = (r : EReal) := fun j => real_of_finite (congrFun h4 j)
  have r5 : ∀ j, ∃ r : ℝ, a5 j = (r : EReal) := fun j => real_of_finite (congrFun h5 j)
  have n6 : ∀ j, a6 j ≠ (0 : EReal) := by
    intro j
    have e : Ideal.cmp .une (a6 j) (Ideal.ofBits .f32 0x00000000#32) = 1#1 := congrFun h6 j
    rw [Ideal.ofBits_zero_f32] at e
    exact (WordCmp.ofBool_decide_eq_one_iff _).mp e
  have r6 : ∀ j, ∃ r : ℝ, Ideal.div 1 (a6 j) = (r : EReal) := fun j => inverse_real (n6 j)
  choose X hX using r0
  choose WP hWP using r1
  choose BP hBP using r2
  choose WQ hWQ using r3
  choose BQ hBQ using r4
  choose MK hMK using r5
  choose RL hRL using r6
  refine ⟨fun b t f ch => X (ix4 b f t ch), fun k j o => WP (ix3 k j o), fun k o => BP (ix2 k o), fun k o i => WQ (ix3 k o i),
    fun k i => BQ (ix2 k i), fun p => MK (ix1 p), fun f => RL (ix1 f),
    { x := fun _ _ _ _ => hX _, wp := fun _ _ _ => hWP _, bp := fun _ _ => hBP _, wq := fun _ _ _ => hWQ _, bq := fun _ _ => hBQ _,
      mask := fun _ => hMK _, ne := fun _ => n6 _, rl := fun _ => hRL _, at_band := fun k w => ?_ }⟩
  have e : IntOp.ori (Ideal.cmp .oeq (a5 (ix1 (place k w))) (Ideal.ofBits .f32 0x00000000#32))
      (IntOp.cmpi .eq (a7 (ix1 (place k w))) (table (ix1 (place k w)))) = 1#1 := congrFun h7 (ix1 (place k w))
  rcases or_split _ _ e with e | e
  · left
    rw [Ideal.ofBits_zero_f32, hMK] at e
    exact EReal.coe_eq_zero.mp ((WordCmp.ofBool_decide_eq_one_iff _).mp e)
  · right
    rw [WordCmp.cmpi_eq_eq, WordCmp.ofBool_decide_eq_one_iff, table_apply] at e
    have hlt := (freq k w).isLt
    unfold Reads
    rw [e, WordCmp.toInt_ofNat_of_lt (by omega)]

end Cert.Bands

end
-- ==== Proof.lean ====
module

public import proofs.«01_k».proof.Defs
public import proofs.«01_k».proof.Proof.Gen.Kernel.Frame
public import proofs.«01_k».proof.Proof.Equation
public import proofs.«01_k».proof.Proof.Run
public import proofs.«01_k».proof.Proof.Pre
public import Idealize.ShloMosaic.Adequacy
public import Idealize.ShloMosaic.Init

@[expose] public section

noncomputable section

namespace Cert.Proof

open Idealize.ShloMosaic Idealize.SL.Sem Idealize.ShloMosaic.ValueIdx
open Cert.KernelIdeal.Fold

instance preFacts : Cert.Pre_bands.Facts := Cert.Bands.facts

/-- The precondition, read. -/
theorem good_args (m : (ℓ : Loc Cert.KernelIdeal.nD Cert.KernelIdeal.τ Cert.KernelIdeal.sig) → Buf (Elt Ideal) ℓ) (h : Cert.Pre_KernelIdeal_bands m)
    (c : Dev Cert.KernelIdeal.nD) : ∃ X WP BP WQ BQ MK RL,
      Good (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        X WP BP WQ BQ MK RL := by
  obtain ⟨h0, h1, h2, h3, h4, h5, h6, h7⟩ := h c
  exact Cert.Bands.good h0 h1 h2 h3 h4 h5 h6 h7

/-- The two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_bands m)
    (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v35 m' c = result m c := by
  obtain ⟨X, WP, BP, WQ, BQ, MK, RL, hg⟩ := good_args m h c
  obtain ⟨e0, e1, e2, e3, e4, e5, e6, e7⟩ := e
  rw [Cert.Ref.res_stages, e0, e1, e2, e3, e4, e5, e6, e7]
  funext j
  rw [eq_ix4 j]
  exact (Cert.Ref.reference_apply hg (j 0) (j 1) (j 2) (j 3)).trans
    ((result_apply m c (j 0) (j 1) (j 2) (j 3)).trans (kernel_apply m c hg (j 0) (j 1) (j 3) (j 2))).symm

/-- The reference leaves its arguments as they were; it has no semaphore, so every counter is at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, preFacts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m ρ m' ρ' h e => ⟨fun c => result m c, run m ρ,
    (θ_run Cert.ReferenceIdeal.defs _ _).mono (fun _ hr c => ⟨(hr c).1.trans (results_eq m m' h c (e c)), (hr c).2⟩)
      (Cert.ReferenceIdeal.Value.run m' ρ')⟩⟩

end Cert.Proof

end
